-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x64 : Shape := ⟨2, ![64, 64]⟩
abbrev S8x64x1024 : Shape := ⟨3, ![8, 64, 1024]⟩
abbrev S512x1024 : Shape := ⟨2, ![512, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S8x64x1024 : S_.BroadcastsInDim S8x64x1024 (![] : Fin 0 → Fin S8x64x1024.rank)
  reducesTo_S8x64x1024_S_d0_1_2 : S8x64x1024.ReducesTo [0, 1, 2] S_

variable [Facts]

def fn_part1 {F : FTy → Type} [FloatOps F] (main_v13 : IVec S_ 1) (main_v16 : IVec S8x64x1024 1) : IVec S_ 1 :=
  let main_c_5 : IVec S_ 1 := constantI S_ 1 1#1
  let main_v17 : IVec S_ 1 := (fun x v => Host.reduce IntOp.andi x v reducesTo_S8x64x1024_S_d0_1_2 h_S_) main_v16 main_c_5
  let main_v18 : IVec S_ 1 := andi main_v13 main_v17
  main_v18

def fn {F : FTy → Type} [FloatOps F] (main_arg0 : FVec F S4x4096x1024 .f32) (main_arg1 : FVec F S64x64 .f32) (main_arg2 : FVec F S8x64x1024 .f32) (main_arg3 : FVec F S8x64x1024 .f32) (main_arg4 : FVec F S8x64x1024 .f32) (main_arg5 : FVec F S512x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S8x64x1024 .f32 := Host.absf main_arg2
  let main_cst_2 : FVec F S_ .f32 := constant S_ .f32 0x7F800000#32
  let main_v10 : FVec F S8x64x1024 .f32 := broadcastInDim S8x64x1024 ![] bcast_S_S8x64x1024 main_cst_2
  let main_v11 : IVec S8x64x1024 1 := cmpf .olt main_v9 main_v10
  let main_c_3 : IVec S_ 1 := constantI S_ 1 1#1
  let main_v12 : IVec S_ 1 := (fun x v => Host.reduce IntOp.andi x v reducesTo_S8x64x1024_S_d0_1_2 h_S_) main_v11 main_c_3
  let main_v13 : IVec S_ 1 := andi main_v8 main_v12
  let main_v14 : FVec F S8x64x1024 .f32 := Host.absf main_arg4
  let main_cst_4 : FVec F S_ .f32 := constant S_ .f32 0x7F800000#32
  let main_v15 : FVec F S8x64x1024 .f32 := broadcastInDim S8x64x1024 ![] bcast_S_S8x64x1024 main_cst_4
  let main_v16 : IVec S8x64x1024 1 := cmpf .olt main_v14 main_v15
  fn_part1 (F := F) main_v13 main_v16
-- ==== Kernel.lean ====
abbrev S4x4096x1024 : Shape := ⟨3, ![4, 4096, 1024]⟩
abbrev S64x64 : Shape := ⟨2, ![64, 64]⟩
abbrev S8x64x1024 : Shape := ⟨3, ![8, 64, 1024]⟩
abbrev S512x1024 : Shape := ⟨2, ![512, 1024]⟩
abbrev S1x256x1024 : Shape := ⟨3, ![1, 256, 1024]⟩
abbrev S64x64x1 : Shape := ⟨3, ![64, 64, 1]⟩
abbrev S64x64x256 : Shape := ⟨3, ![64, 64, 256]⟩
abbrev S256x1024 : Shape := ⟨2, ![256, 1024]⟩
abbrev S1024x256 : Shape := ⟨2, ![1024, 256]⟩
abbrev S512x256 : Shape := ⟨2, ![512, 256]⟩
abbrev S64x256 : Shape := ⟨2, ![64, 256]⟩
abbrev S256 : Shape := ⟨1, ![256]⟩
abbrev S1x256 : Shape := ⟨2, ![1, 256]⟩
abbrev S63x256 : Shape := ⟨2, ![63, 256]⟩
abbrev S62x256 : Shape := ⟨2, ![62, 256]⟩
abbrev S2x256 : Shape := ⟨2, ![2, 256]⟩
abbrev S60x256 : Shape := ⟨2, ![60, 256]⟩
abbrev S4x256 : Shape := ⟨2, ![4, 256]⟩
abbrev S56x256 : Shape := ⟨2, ![56, 256]⟩
abbrev S8x256 : Shape := ⟨2, ![8, 256]⟩
abbrev S48x256 : Shape := ⟨2, ![48, 256]⟩
abbrev S16x256 : Shape := ⟨2, ![16, 256]⟩
abbrev S32x256 : Shape := ⟨2, ![32, 256]⟩
abbrev S64x1x256 : Shape := ⟨3, ![64, 1, 256]⟩
abbrev S1x64x256 : Shape := ⟨3, ![1, 64, 256]⟩
abbrev S4x64x256 : Shape := ⟨3, ![4, 64, 256]⟩
abbrev S4x64x1 : Shape := ⟨3, ![4, 64, 1]⟩
abbrev S4x64x255 : Shape := ⟨3, ![4, 64, 255]⟩
abbrev S4x1x256 : Shape := ⟨3, ![4, 1, 256]⟩
abbrev S4x1 : Shape := ⟨2, ![4, 1]⟩
abbrev S4x255 : Shape := ⟨2, ![4, 255]⟩
abbrev S4x64x2 : Shape := ⟨3, ![4, 64, 2]⟩
abbrev S4x64x254 : Shape := ⟨3, ![4, 64, 254]⟩
abbrev S4x2 : Shape := ⟨2, ![4, 2]⟩
abbrev S4x254 : Shape := ⟨2, ![4, 254]⟩
abbrev S4x64x4 : Shape := ⟨3, ![4, 64, 4]⟩
abbrev S4x64x252 : Shape := ⟨3, ![4, 64, 252]⟩
abbrev S4x4 : Shape := ⟨2, ![4, 4]⟩
abbrev S4x252 : Shape := ⟨2, ![4, 252]⟩
abbrev S4x64x8 : Shape := ⟨3, ![4, 64, 8]⟩
abbrev S4x64x248 : Shape := ⟨3, ![4, 64, 248]⟩
abbrev S4x8 : Shape := ⟨2, ![4, 8]⟩
abbrev S4x248 : Shape := ⟨2, ![4, 248]⟩
abbrev S4x64x16 : Shape := ⟨3, ![4, 64, 16]⟩
abbrev S4x64x240 : Shape := ⟨3, ![4, 64, 240]⟩
abbrev S4x16 : Shape := ⟨2, ![4, 16]⟩
abbrev S4x240 : Shape := ⟨2, ![4, 240]⟩
abbrev S4x64x32 : Shape := ⟨3, ![4, 64, 32]⟩
abbrev S4x64x224 : Shape := ⟨3, ![4, 64, 224]⟩
abbrev S4x32 : Shape := ⟨2, ![4, 32]⟩
abbrev S4x224 : Shape := ⟨2, ![4, 224]⟩
abbrev S4x64x64 : Shape := ⟨3, ![4, 64, 64]⟩
abbrev S4x64x192 : Shape := ⟨3, ![4, 64, 192]⟩
abbrev S4x64 : Shape := ⟨2, ![4, 64]⟩
abbrev S4x192 : Shape := ⟨2, ![4, 192]⟩
abbrev S4x64x128 : Shape := ⟨3, ![4, 64, 128]⟩
abbrev S4x128 : Shape := ⟨2, ![4, 128]⟩
abbrev S256x512 : Shape := ⟨2, ![256, 512]⟩

abbrev nBuf : Space → Nat
  | .hbm => 10
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S64x64, .f32⟩
  | .hbm, ⟨2, _⟩ => ⟨S8x64x1024, .f32⟩
  | .hbm, ⟨3, _⟩ => ⟨S8x64x1024, .f32⟩
  | .hbm, ⟨4, _⟩ => ⟨S8x64x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S64x64, .f32⟩
  | .local _ .vmem, ⟨6, _⟩ => ⟨S512x1024, .f32⟩
  | .local _ .vmem, ⟨7, _⟩ => ⟨S1x256x1024, .f32⟩
  | .local _ .vmem, ⟨8, _⟩ => ⟨S1x256x1024, .f32⟩
  | .local _ .vmem, ⟨9, _⟩ => ⟨S64x64x1, .f32⟩
  | .local _ .vmem, ⟨10, _⟩ => ⟨S64x64x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4096x1024 : Shape := ⟨3, ![4, 4096, 1024]⟩
abbrev S64x64 : Shape := ⟨2, ![64, 64]⟩
abbrev S8x64x1024 : Shape := ⟨3, ![8, 64, 1024]⟩
abbrev S512x1024 : Shape := ⟨2, ![512, 1024]⟩
abbrev S64 : Shape := ⟨1, ![64]⟩
abbrev S64x1 : Shape := ⟨2, ![64, 1]⟩
abbrev S4096 : Shape := ⟨1, ![4096]⟩
abbrev S1x4096 : Shape := ⟨2, ![1, 4096]⟩
abbrev S64x4096 : Shape := ⟨2, ![64, 4096]⟩
abbrev S_ : Shape := ⟨0, ![]⟩
abbrev S64x4096x1 : Shape := ⟨3, ![64, 4096, 1]⟩
abbrev S64x4096x64 : Shape := ⟨3, ![64, 4096, 64]⟩
abbrev S8x64x4x4096 : Shape := ⟨4, ![8, 64, 4, 4096]⟩
abbrev S4x8x4096x64 : Shape := ⟨4, ![4, 8, 4096, 64]⟩
abbrev S4096x64x4x8 : Shape := ⟨4, ![4096, 64, 4, 8]⟩
abbrev S4x8x64x4096 : Shape := ⟨4, ![4, 8, 64, 4096]⟩
abbrev S4x8x4096 : Shape := ⟨3, ![4, 8, 4096]⟩
abbrev S4x8x1x4096 : Shape := ⟨4, ![4, 8, 1, 4096]⟩
abbrev S4x64x4096 : Shape := ⟨3, ![4, 64, 4096]⟩
abbrev S4x4096x64x64 : Shape := ⟨4, ![4, 4096, 64, 64]⟩
abbrev S4x64x4096x64 : Shape := ⟨4, ![4, 64, 4096, 64]⟩
abbrev S4x64x64 : Shape := ⟨3, ![4, 64, 64]⟩
abbrev S4x64x1 : Shape := ⟨3, ![4, 64, 1]⟩
abbrev S4x64 : Shape := ⟨2, ![4, 64]⟩
abbrev S4x64x1x64 : Shape := ⟨4, ![4, 64, 1, 64]⟩
abbrev S64x4x8x4096 : Shape := ⟨4, ![64, 4, 8, 4096]⟩
abbrev S4x4096x8x64 : Shape := ⟨4, ![4, 4096, 8, 64]⟩
abbrev S4x4096x512 : Shape := ⟨3, ![4, 4096, 512]⟩

abbrev nBuf : Space → Nat
  | .hbm => 152
  | .vmem => 0
  | .smem => 0
  | _ => 0

abbrev hbmTy0_0 (i : Nat) : BufTy := match i % 128 with
  | 0 => ⟨S4x4096x1024, .f32⟩
  | 1 => ⟨S64x64, .f32⟩
  | 2 => ⟨S8x64x1024, .f32⟩
  | 3 => ⟨S8x64x1024, .f32⟩
  | 4 => ⟨S8x64x1024, .f32⟩
  | 5 => ⟨S512x1024, .f32⟩
  | 6 => ⟨S64, .i32⟩
  | 7 => ⟨S64x1, .i32⟩
  | 8 => ⟨S4096, .i32⟩
  | 9 => ⟨S1x4096, .i32⟩
  | 10 => ⟨S64x4096, .i32⟩
  | 11 => ⟨S64x4096, .i32⟩
  | 12 => ⟨S64x4096, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S64x4096, .i32⟩
  | 20 => ⟨S64x4096, .i32⟩
  | 21 => ⟨S_, .i32⟩
  | 22 => ⟨S64x4096, .i32⟩
  | 23 => ⟨S64x4096, .i1⟩
  | 24 => ⟨S_, .i32⟩
  | 25 => ⟨S64x4096, .i32⟩
  | 26 => ⟨S64x4096, .i1⟩
  | 27 => ⟨S_, .i32⟩
  | 28 => ⟨S_, .i1⟩
  | 29 => ⟨S64x4096, .i1⟩
  | 30 => ⟨S64x4096, .i1⟩
  | 31 => ⟨S64x4096, .i1⟩
  | 32 => ⟨S64x4096, .i32⟩
  | 33 => ⟨S64x4096, .i32⟩
  | 34 => ⟨S64x4096, .i32⟩
  | 35 => ⟨S_, .i32⟩
  | 36 => ⟨S64x4096, .i32⟩
  | 37 => ⟨S64x4096, .i1⟩
  | 38 => ⟨S_, .i32⟩
  | 39 => ⟨S64x4096, .i32⟩
  | 40 => ⟨S64x4096, .i32⟩
  | 41 => ⟨S64x4096, .i32⟩
  | 42 => ⟨S64x4096x1, .i32⟩
  | 43 => ⟨S64x4096x64, .f32⟩
  | 44 => ⟨S8x64x4x4096, .f32⟩
  | 45 => ⟨S4x8x4096x64, .f32⟩
  | 46 => ⟨S8x64x4x4096, .f32⟩
  | 47 => ⟨S4x8x4096x64, .f32⟩
  | 48 => ⟨S4096x64x4x8, .f32⟩
  | 49 => ⟨S4x8x64x4096, .f32⟩
  | 50 => ⟨S_, .f32⟩
  | 51 => ⟨S4x8x64x4096, .f32⟩
  | 52 => ⟨S4x8x64x4096, .f32⟩
  | 53 => ⟨S_, .f32⟩
  | 54 => ⟨S4x8x4096, .f32⟩
  | 55 => ⟨S_, .f32⟩
  | 56 => ⟨S4x8x4096, .f32⟩
  | 57 => ⟨S4x8x4096, .f32⟩
  | 58 => ⟨S4x8x1x4096, .f32⟩
  | 59 => ⟨S4x8x64x4096, .f32⟩
  | 60 => ⟨S4x8x64x4096, .f32⟩
  | 61 => ⟨S4x8x64x4096, .f32⟩
  | 62 => ⟨S_, .f32⟩
  | 63 => ⟨S4x8x4096, .f32⟩
  | 64 => ⟨S4x8x1x4096, .f32⟩
  | 65 => ⟨S4x8x64x4096, .f32⟩
  | 66 => ⟨S4x8x64x4096, .f32⟩
  | 67 => ⟨S_, .f32⟩
  | 68 => ⟨S4x64x4096, .f32⟩
  | 69 => ⟨S_, .f32⟩
  | 70 => ⟨S4x64x4096, .f32⟩
  | 71 => ⟨S4x64x4096, .f32⟩
  | 72 => ⟨S4x4096x64x64, .f32⟩
  | 73 => ⟨S4x64x4096x64, .f32⟩
  | 74 => ⟨S_, .f32⟩
  | 75 => ⟨S4x64x64, .f32⟩
  | 76 => ⟨S_, .f32⟩
  | 77 => ⟨S4x64x4096x64, .f32⟩
  | 78 => ⟨S_, .i32⟩
  | 79 => ⟨S_, .i32⟩
  | 80 => ⟨S4x64x4096, .f32⟩
  | 81 => ⟨S4x64x4096x64, .f32⟩
  | 82 => ⟨S_, .i32⟩
  | 83 => ⟨S_, .i32⟩
  | 84 => ⟨S4x64x64, .f32⟩
  | 85 => ⟨S4x64x4096x64, .f32⟩
  | 86 => ⟨S_, .i32⟩
  | 87 => ⟨S_, .i1⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S4x64x1, .f32⟩
  | 99 => ⟨S4x64, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S4x64x1x64, .f32⟩
  | 110 => ⟨S4x64x64, .f32⟩
  | 111 => ⟨S4x64x1, .f32⟩
  | 112 => ⟨S4x64x64, .f32⟩
  | 113 => ⟨S4x64x64, .f32⟩
  | 114 => ⟨S4x64x64, .f32⟩
  | 115 => ⟨S4x64x1x64, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S4x64x4096x64, .f32⟩
  | 126 => ⟨S_, .i32⟩
  | 127 => ⟨S_, .i32⟩
  | _ => ⟨S4x4096x1024, .f32⟩

abbrev hbmTy0_1 (i : Nat) : BufTy := match i % 128 with
  | 0 => ⟨S8x64x4x4096, .f32⟩
  | 1 => ⟨S4x8x4096x64, .f32⟩
  | 2 => ⟨S64x4x8x4096, .f32⟩
  | 3 => ⟨S4x8x64x4096, .f32⟩
  | 4 => ⟨S_, .f32⟩
  | 5 => ⟨S4x8x64x4096, .f32⟩
  | 6 => ⟨S4x8x64x4096, .f32⟩
  | 7 => ⟨S_, .f32⟩
  | 8 => ⟨S4x8x4096, .f32⟩
  | 9 => ⟨S_, .f32⟩
  | 10 => ⟨S4x8x4096, .f32⟩
  | 11 => ⟨S4x8x4096, .f32⟩
  | 12 => ⟨S4x8x1x4096, .f32⟩
  | 13 => ⟨S4x8x64x4096, .f32⟩
  | 14 => ⟨S4x8x64x4096, .f32⟩
  | 15 => ⟨S4x8x64x4096, .f32⟩
  | 16 => ⟨S_, .f32⟩
  | 17 => ⟨S4x8x4096, .f32⟩
  | 18 => ⟨S4x8x1x4096, .f32⟩
  | 19 => ⟨S4x8x64x4096, .f32⟩
  | 20 => ⟨S4x8x64x4096, .f32⟩
  | 21 => ⟨S4x4096x8x64, .f32⟩
  | 22 => ⟨S4x4096x512, .f32⟩
  | 23 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev main_c_9 : Ref sig .tc := ⟨.hbm, 78, rfl⟩
abbrev main_c_10 : Ref sig .tc := ⟨.hbm, 79, rfl⟩
abbrev main_v41_0 : Ref sig .tc := ⟨.hbm, 80, rfl⟩
abbrev main_v41_1 : Ref sig .tc := ⟨.hbm, 81, rfl⟩
abbrev main_v41_2 : Ref sig .tc := ⟨.hbm, 82, rfl⟩
abbrev main_v41_3 : Ref sig .tc := ⟨.hbm, 83, rfl⟩
abbrev main_v41_4 : Ref sig .tc := ⟨.hbm, 84, rfl⟩
abbrev main_v41_5 : Ref sig .tc := ⟨.hbm, 85, rfl⟩
abbrev main_while0c_c_20 : Ref sig .tc := ⟨.hbm, 86, rfl⟩
abbrev main_while0c_v62 : Ref sig .tc := ⟨.hbm, 87, rfl⟩
abbrev main_while0b_c_20 : Ref sig .tc := ⟨.hbm, 88, rfl⟩
abbrev main_while0b_v62 : Ref sig .tc := ⟨.hbm, 89, rfl⟩
abbrev main_while0b_call1_c : Ref sig .tc := ⟨.hbm, 90, rfl⟩
abbrev main_while0b_call1_v0 : Ref sig .tc := ⟨.hbm, 91, rfl⟩
abbrev main_while0b_call1_v1 : Ref sig .tc := ⟨.hbm, 92, rfl⟩
abbrev main_while0b_call1_c_0 : Ref sig .tc := ⟨.hbm, 93, rfl⟩
abbrev main_while0b_call1_v2 : Ref sig .tc := ⟨.hbm, 94, rfl⟩
abbrev main_while0b_call1_v3 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v4 : Ref sig .tc := ⟨.hbm, 98, rfl⟩
abbrev main_while0b_v63 : Ref sig .tc := ⟨.hbm, 99, rfl⟩
abbrev main_while0b_call2_c : Ref sig .tc := ⟨.hbm, 100, rfl⟩
abbrev main_while0b_call2_v0 : Ref sig .tc := ⟨.hbm, 101, rfl⟩
abbrev main_while0b_call2_v1 : Ref sig .tc := ⟨.hbm, 102, rfl⟩
abbrev main_while0b_call2_c_0 : Ref sig .tc := ⟨.hbm, 103, rfl⟩
abbrev main_while0b_call2_v2 : Ref sig .tc := ⟨.hbm, 104, rfl⟩
abbrev main_while0b_call2_v3 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_c_3 : Ref sig .tc := ⟨.hbm, 108, rfl⟩
abbrev main_while0b_call2_v4 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_call3_v0 : Ref sig .tc := ⟨.hbm, 115, rfl⟩
abbrev main_while0b_call3_c : Ref sig .tc := ⟨.hbm, 116, rfl⟩
abbrev main_while0b_call3_v1 : Ref sig .tc := ⟨.hbm, 117, rfl⟩
abbrev main_while0b_call3_v2 : Ref sig .tc := ⟨.hbm, 118, rfl⟩
abbrev main_while0b_call3_c_0 : Ref sig .tc := ⟨.hbm, 119, rfl⟩
abbrev main_while0b_call3_v3 : Ref sig .tc := ⟨.hbm, 120, rfl⟩
abbrev main_while0b_call3_v4 : Ref sig .tc := ⟨.hbm, 121, rfl⟩
abbrev main_while0b_call3_c_1 : Ref sig .tc := ⟨.hbm, 122, rfl⟩
abbrev main_while0b_call3_c_2 : Ref sig .tc := ⟨.hbm, 123, rfl⟩
abbrev main_while0b_call3_c_3 : Ref sig .tc := ⟨.hbm, 124, rfl⟩
abbrev main_while0b_v69 : Ref sig .tc := ⟨.hbm, 125, rfl⟩
abbrev main_while0b_c_21 : Ref sig .tc := ⟨.hbm, 126, rfl⟩
abbrev main_while0b_v70 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_cst_11 : Ref sig .tc := ⟨.hbm, 132, rfl⟩
abbrev main_v46 : Ref sig .tc := ⟨.hbm, 133, rfl⟩
abbrev main_v47 : Ref sig .tc := ⟨.hbm, 134, rfl⟩
abbrev main_cst_12 : Ref sig .tc := ⟨.hbm, 135, rfl⟩
abbrev main_v48 : Ref sig .tc := ⟨.hbm, 136, rfl⟩
abbrev main_cst_13 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_cst_14 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩

abbrev nD : Nat := 1
abbrev τ : Topo := Topo.v7x

variable {F : FTy → Type} [FloatOps F]

abbrev main_while0_count : Scf.Loop 32 := ⟨0#32, 4096#32, 1#32⟩
-- ==== Proof.Weights.lean ====
module

public import Idealize.ShloMosaic.Lib.Pointwise

@[expose] public section

noncomputable section

namespace Cert.Barrel

open Idealize.ShloMosaic

/-! ## The addressing weights, at one position -/

/-- The largest of 64 scores. -/
def mx (f : Fin 64 → EReal) : EReal := Finset.fold max (Ideal.ofBits FTy.f32 0xFF800000#32) f Finset.univ

/-- The softmax of 64 scores. -/
def sm (f : Fin 64 → EReal) (l : Fin 64) : EReal :=
  Ideal.div (Ideal.exp (f l - mx f)) (∑ x, Ideal.exp (f x - mx f))

/-- The scaled scores of a query against the keys. -/
def sc (k : Fin 64 → Fin 64 → EReal) (q : Fin 64 → EReal) (l : Fin 64) : EReal :=
  (∑ d, k l d * q d) * Ideal.ofBits FTy.f32 0x3E000000#32

/-- The softmax of rearranged scores is the rearranged softmax. -/
theorem sm_perm (σ : Equiv.Perm (Fin 64)) (f : Fin 64 → EReal) (l : Fin 64) : sm (fun x => f (σ x)) l = sm f (σ l) := by
  have e : mx (fun x => f (σ x)) = mx f := by
    unfold mx
    have := Finset.fold_map (op := max) (b := Ideal.ofBits FTy.f32 0xFF800000#32) (f := f) (g := σ.toEmbedding)
      (s := Finset.univ)
    rw [Finset.map_univ_equiv] at this
    exact this.symm
  unfold sm
  rw [e, Equiv.sum_comp σ (fun x => Ideal.exp (f x - mx f))]

/-- Rotation of the 64 lines by `t`. -/
def turn (t : ℕ) (l : Fin 64) : Fin 64 := ⟨(l.val + t) % 64, Nat.mod_lt _ (by decide)⟩

/-- The rotation as a rearrangement. -/
def turnPerm (t : ℕ) : Equiv.Perm (Fin 64) :=
  Equiv.ofBijective (turn t) (Finite.injective_iff_bijective.mp fun a b h => by
    have := congrArg Fin.val h
    simp only [turn] at this
    apply Fin.ext
    omega)

theorem sm_turn (t : ℕ) (f : Fin 64 → EReal) (l : Fin 64) : sm (fun x => f (turn t x)) l = sm f (turn t l) :=
  sm_perm (turnPerm t) f l

/-! ### Real scores have real weights -/

/-- A value that is a real number. -/
def Rl (x : EReal) : Prop := ∃ r : ℝ, x = (r : EReal)

theorem Rl.add {x y : EReal} : Rl x → Rl y → Rl (x + y) := by
  rintro ⟨a, rfl⟩ ⟨b, rfl⟩
  exact ⟨a + b, by push_cast; rfl⟩

theorem Rl.mul {x y : EReal} : Rl x → Rl y → Rl (x * y) := by
  rintro ⟨a, rfl⟩ ⟨b, rfl⟩
  exact ⟨a * b, by push_cast; rfl⟩

theorem Rl.sub {x y : EReal} : Rl x → Rl y → Rl (x - y) := by
  rintro ⟨a, rfl⟩ ⟨b, rfl⟩
  exact ⟨a - b, by push_cast; rfl⟩

theorem Rl.sum {ι : Type} (s : Finset ι) {f : ι → EReal} (h : ∀ i, Rl (f i)) : Rl (∑ i ∈ s, f i) := by
  classical
  induction s using Finset.induction_on with
  | empty => exact ⟨0, by simp⟩
  | insert a s ha ih => rw [Finset.sum_insert ha]; exact (h a).add ih

theorem ofBits_bot : Ideal.ofBits FTy.f32 0xFF800000#32 = ⊥ := by
  simp [Ideal.ofBits, Ideal.ieee]

theorem ofBits_one : Rl (Ideal.ofBits FTy.f32 0x3F800000#32) := by
  refine ⟨1, ?_⟩
  simp [Ideal.ofBits, Ideal.ieee, -EReal.coe_mul]
  norm_num

theorem ofBits_eighth : Rl (Ideal.ofBits FTy.f32 0x3E000000#32) := by
  refine ⟨1 / 8, ?_⟩
  simp [Ideal.ofBits, Ideal.ieee, -EReal.coe_mul]
  norm_num

theorem mx_real {f : Fin 64 → EReal} (h : ∀ l, Rl (f l)) : Rl (mx f) := by
  have e : mx f = Finset.univ.sup f := by
    unfold mx
    rw [ofBits_bot]
    rfl
  obtain ⟨l, _, hl⟩ := Finset.exists_mem_eq_sup Finset.univ ⟨(0 : Fin 64), Finset.mem_univ _⟩ f
  rw [e, hl]
  exact h l

theorem sm_real {f : Fin 64 → EReal} (h : ∀ l, Rl (f l)) (l : Fin 64) : Rl (sm f l) := by
  obtain ⟨m, hm⟩ := mx_real h
  choose g hg using h
  have e : ∀ x, Ideal.exp (f x - mx f) = ((Real.exp (g x - m) : ℝ) : EReal) := fun x => by
    rw [hg, hm, ← EReal.coe_sub, Ideal.exp_coe]
  have es : ∑ x, Ideal.exp (f x - mx f) = ((∑ x, Real.exp (g x - m) : ℝ) : EReal) := by
    rw [Finset.sum_congr rfl fun x _ => e x]
    exact (map_sum (⟨⟨Real.toEReal, EReal.coe_zero⟩, EReal.coe_add⟩ : ℝ →+ EReal) _ _).symm
  have hp : (0 : ℝ) < ∑ x : Fin 64, Real.exp (g x - m) :=
    Finset.sum_pos (fun x _ => Real.exp_pos _) ⟨(0 : Fin 64), Finset.mem_univ _⟩
  unfold sm
  rw [es, Ideal.div_coe hp.ne', e]
  exact Rl.mul ⟨_, rfl⟩ ⟨_, rfl⟩

theorem sc_real {k : Fin 64 → Fin 64 → EReal} {q : Fin 64 → EReal} (hk : ∀ l d, Rl (k l d)) (hq : ∀ d, Rl (q d))
    (l : Fin 64) : Rl (sc k q l) :=
  (Rl.sum _ fun d => (hk l d).mul (hq d)).mul ofBits_eighth

theorem turn_turn (a b : ℕ) (l : Fin 64) : turn a (turn b l) = turn (b + a) l := by
  apply Fin.ext
  simp only [turn]
  omega

theorem turn_congr {a b : ℕ} (h : a % 64 = b % 64) (l : Fin 64) : turn a l = turn b l := by
  apply Fin.ext
  simp only [turn]
  omega

/-- The recurrence `m ← a·m + v`, `k` times from `c`. -/
def mem (a v : ℕ → EReal) (c : EReal) : ℕ → EReal
  | 0 => c
  | k + 1 => a k * mem a v c k + v k

end Cert.Barrel
-- ==== Proof.Finite.lean ====
module

public import proofs.«01_k».proof.Defs
public import proofs.«01_k».proof.Proof.Weights
public import proofs.«01_k».proof.Proof.Gen.Pre_finite_inputs
public import Idealize.ShloMosaic.Lib.ReduceAll
public import Idealize.ShloMosaic.Lib.Pointwise

@[expose] public section

set_option maxRecDepth 16384

noncomputable section

namespace Cert.Pre_finite_inputs

open Idealize.ShloMosaic Cert.Barrel Facts

theorem real_of_lt (x : EReal) (h : BitVec.ofBool (decide (max x (-x) < Ideal.ofBits FTy.f32 0x7F800000#32)) = 1#1) : Rl x := by
  have e : Ideal.ofBits FTy.f32 0x7F800000#32 = ⊤ := by simp [Ideal.ofBits, Ideal.ieee]
  rw [e] at h
  induction x with
  | bot => simp at h
  | top => simp at h
  | coe r => exact ⟨r, rfl⟩

theorem both {a b : BitVec 1} (h : IntOp.andi a b = 1#1) : a = 1#1 ∧ b = 1#1 := by
  revert a b
  decide

instance : Subsingleton S_.Idx := ⟨fun a b => funext fun i => i.elim0⟩

theorem real_all {s : Shape} (x : FVec Ideal s .f32) (hb : S_.BroadcastsInDim s (![] : Fin 0 → Fin s.rank))
    {axes : List (Fin s.rank)} (hr : s.ReducesTo axes S_) (j : S_.Idx)
    (h : Host.reduce IntOp.andi (cmpf .olt (Host.absf x) (broadcastInDim s ![] hb (constant (F := Ideal) S_ .f32 0x7F800000#32)))
      (constantI S_ 1 1#1) hr h_S_ j = 1#1) (i : s.Idx) : Rl (x i) := by
  have e := Host.reduce_andi_all _ _ _ _ _ h i
  exact real_of_lt _ e

theorem finite (x : FVec Ideal S4x4096x1024 .f32) (k : FVec Ideal S64x64 .f32) (wq wr wv : FVec Ideal S8x64x1024 .f32)
    (wo : FVec Ideal S512x1024 .f32) (h : fn (F := Ideal) x k wq wr wv wo = fun _ => 1#1) :
    (∀ i, Rl (x i)) ∧ (∀ i, Rl (k i)) ∧ (∀ i, Rl (wq i)) ∧ (∀ i, Rl (wv i)) := by
  have e := congrFun h ix0
  obtain ⟨e, e3⟩ := both e
  obtain ⟨e, e2⟩ := both e
  obtain ⟨e0, e1⟩ := both e
  exact ⟨real_all _ _ _ _ e0, real_all _ _ _ _ e1, real_all _ _ _ _ e2, real_all _ _ _ _ e3⟩

end Cert.Pre_finite_inputs
-- ==== Proof.Scan.lean ====
module

public import proofs.«01_k».proof.Proof.Gen.KernelIdeal.Skeleton
public import Idealize.ShloMosaic.Lib.Pointwise

@[expose] public section

set_option maxRecDepth 16384

noncomputable section

namespace Cert.KernelIdeal.Body

open Cert.KernelIdeal Cert.KernelIdeal.Gen Idealize.ShloMosaic Idealize.SL.Sem

/-! ## The doubling scan over the real numbers -/

/-- The last `w` terms of the recurrence ending at `t`, started from nothing. -/
def W (a v : ℕ → ℝ) : ℕ → ℕ → ℝ
  | 0, _ => 0
  | w + 1, t => v t + a t * (if t < 1 then 0 else W a v w (t - 1))

/-- The product of the last `w` factors ending at `t`. -/
def P (a : ℕ → ℝ) : ℕ → ℕ → ℝ
  | 0, _ => 1
  | w + 1, t => a t * (if t < 1 then 1 else P a w (t - 1))

/-- The recurrence itself, from a start value. -/
def C (a v : ℕ → ℝ) (c : ℝ) : ℕ → ℝ
  | 0 => a 0 * c + v 0
  | t + 1 => a (t + 1) * C a v c t + v (t + 1)

theorem W_add (a v : ℕ → ℝ) (w u t : ℕ) :
    W a v (w + u) t = W a v w t + P a w t * (if t < w then 0 else W a v u (t - w)) := by
  induction w generalizing t with
  | zero => simp [W, P]
  | succ w ih =>
    rw [Nat.add_right_comm]
    simp only [W, P]
    rcases t with _ | t
    · simp
    · simp only [Nat.add_sub_cancel, ih, Nat.add_lt_add_iff_right, Nat.add_sub_add_right]
      simp
      split_ifs <;> ring

theorem P_add (a : ℕ → ℝ) (w u t : ℕ) :
    P a (w + u) t = P a w t * (if t < w then 1 else P a u (t - w)) := by
  induction w generalizing t with
  | zero => simp [P]
  | succ w ih =>
    rw [Nat.add_right_comm]
    simp only [P]
    rcases t with _ | t
    · simp
    · simp only [Nat.add_sub_cancel, ih, Nat.add_lt_add_iff_right, Nat.add_sub_add_right]
      simp
      split_ifs <;> ring

theorem W_C (a v : ℕ → ℝ) (c : ℝ) (w t : ℕ) (h : t < w) : W a v w t + P a w t * c = C a v c t := by
  induction t generalizing w with
  | zero =>
    rcases w with _ | w
    · omega
    · simp [W, P, C]; ring
  | succ t ih =>
    rcases w with _ | w
    · omega
    · have := ih w (by omega)
      simp [W, P, C, ← this]; ring

/-! ## The kernel's step of the scan -/

section
variable {F : FTy → Type} [FloatOps F]

/-- The partial sums joined with those `d` columns to the left. -/
def stepV (d e : ℕ) (hs : Shape.Slices (s := S4x64x256) ![0, 0, 0] ⟨3, ![4, 64, e]⟩)
    (hc : Shape.Concatenates [⟨3, ![4, 64, d]⟩, ⟨3, ![4, 64, e]⟩] S4x64x256 2)
    (asl : FVec F S4x256 .f32) (vs : FVec F S4x64x256 .f32) : FVec F S4x64x256 .f32 :=
  addf vs (mulf (broadcastTo S4x64x256 (shapeCast S4x1x256 asl Facts₀.shapeCasts_S4x256_S4x1x256)
      Facts₀.broadcasts_S4x1x256_S4x64x256)
    (concatenate S4x64x256 2 [⟨⟨3, ![4, 64, d]⟩, broadcast _ (Scalar.ofBits .f32 0x00000000#32)⟩,
      ⟨⟨3, ![4, 64, e]⟩, extractStridedSlice _ ![0, 0, 0] vs hs⟩] hc))

/-- The partial products joined with those `d` columns to the left. -/
def stepA (d e : ℕ) (hs : Shape.Slices (s := S4x256) ![0, 0] ⟨2, ![4, e]⟩)
    (hc : Shape.Concatenates [⟨2, ![4, d]⟩, ⟨2, ![4, e]⟩] S4x256 1) (asl : FVec F S4x256 .f32) : FVec F S4x256 .f32 :=
  mulf asl (concatenate S4x256 1 [⟨⟨2, ![4, d]⟩, broadcast _ (Scalar.ofBits .f32 0x3F800000#32)⟩,
      ⟨⟨2, ![4, e]⟩, extractStridedSlice _ ![0, 0] asl hs⟩] hc)

end

theorem stepV_apply (d e : ℕ) (hs hc) (asl : FVec Ideal S4x256 .f32) (vs : FVec Ideal S4x64x256 .f32)
    (l : Fin 4) (r : Fin 64) (t : Fin 256) (hd : 0 < d) :
    stepV d e hs hc asl vs (ix3 l r t) = vs (ix3 l r t) + asl (ix2 l t) *
      (if t.val < d then 0 else vs (ix3 l r ⟨t.val - d, by omega⟩)) := by
  pointwise [stepV]
  split_ifs <;> rfl

theorem stepA_apply (d e : ℕ) (hs hc) (asl : FVec Ideal S4x256 .f32)
    (l : Fin 4) (t : Fin 256) (hd : 0 < d) :
    stepA d e hs hc asl (ix2 l t) = asl (ix2 l t) *
      (if t.val < d then 1 else asl (ix2 l ⟨t.val - d, by omega⟩)) := by
  pointwise [stepA]
  split_ifs <;> rfl

/-- The last `2^k` terms of the scan, in vectors of real numbers. -/
def IsW (w : ℕ) (a : Fin 4 → ℕ → ℝ) (v : Fin 4 → Fin 64 → ℕ → ℝ) (vs : FVec Ideal S4x64x256 .f32) : Prop :=
  ∀ l r t, vs (ix3 l r t) = ((W (a l) (v l r) w t.val : ℝ) : EReal)

/-- The products of the last `w` factors, in a vector of real numbers. -/
def IsP (w : ℕ) (a : Fin 4 → ℕ → ℝ) (asl : FVec Ideal S4x256 .f32) : Prop :=
  ∀ l t, asl (ix2 l t) = ((P (a l) w t.val : ℝ) : EReal)

theorem IsW.step {d : ℕ} {a : Fin 4 → ℕ → ℝ} {v : Fin 4 → Fin 64 → ℕ → ℝ} {vs : FVec Ideal S4x64x256 .f32}
    {asl : FVec Ideal S4x256 .f32} (hV : IsW d a v vs) (hA : IsP d a asl) (hd : 0 < d) (e : ℕ) (hs hc) :
    IsW (d + d) a v (stepV d e hs hc asl vs) := by
  intro l r t
  rw [stepV_apply d e hs hc asl vs l r t hd, W_add, hV, hA]
  split_ifs
  · simp
  · rw [hV]; norm_cast

theorem IsP.step {d : ℕ} {a : Fin 4 → ℕ → ℝ} {asl : FVec Ideal S4x256 .f32} (hA : IsP d a asl) (hd : 0 < d)
    (e : ℕ) (hs hc) : IsP (d + d) a (stepA d e hs hc asl) := by
  intro l t
  rw [stepA_apply d e hs hc asl l t hd, P_add, hA]
  split_ifs
  · simp
  · rw [hA]; norm_cast

section
variable {F : FTy → Type} [FloatOps F]

def A1 (a : FVec F S4x256 .f32) : FVec F S4x256 .f32 := stepA 1 255 (by decide) (by decide) a
def A2 (a : FVec F S4x256 .f32) : FVec F S4x256 .f32 := stepA 2 254 (by decide) (by decide) (A1 a)
def A3 (a : FVec F S4x256 .f32) : FVec F S4x256 .f32 := stepA 4 252 (by decide) (by decide) (A2 a)
def A4 (a : FVec F S4x256 .f32) : FVec F S4x256 .f32 := stepA 8 248 (by decide) (by decide) (A3 a)
def A5 (a : FVec F S4x256 .f32) : FVec F S4x256 .f32 := stepA 16 240 (by decide) (by decide) (A4 a)
def A6 (a : FVec F S4x256 .f32) : FVec F S4x256 .f32 := stepA 32 224 (by decide) (by decide) (A5 a)
def A7 (a : FVec F S4x256 .f32) : FVec F S4x256 .f32 := stepA 64 192 (by decide) (by decide) (A6 a)
def A8 (a : FVec F S4x256 .f32) : FVec F S4x256 .f32 := stepA 128 128 (by decide) (by decide) (A7 a)

/-- All eight steps of the scan over one group of four rows. -/
def scan (a : FVec F S4x256 .f32) (v : FVec F S4x64x256 .f32) : FVec F S4x64x256 .f32 :=
  stepV 128 128 (by decide) (by decide) (A7 a) <|
  stepV 64 192 (by decide) (by decide) (A6 a) <|
  stepV 32 224 (by decide) (by decide) (A5 a) <|
  stepV 16 240 (by decide) (by decide) (A4 a) <|
  stepV 8 248 (by decide) (by decide) (A3 a) <|
  stepV 4 252 (by decide) (by decide) (A2 a) <|
  stepV 2 254 (by decide) (by decide) (A1 a) <|
  stepV 1 255 (by decide) (by decide) a v

/-- The scan with the value carried in from the block before. -/
def grp (a : FVec F S4x256 .f32) (v : FVec F S4x64x256 .f32) (c : Vec F S4x64x1 .f32) : FVec F S4x64x256 .f32 :=
  addf (scan a v) (mulf
    (broadcastTo S4x64x256 (shapeCast S4x1x256 (A8 a) Facts₀.shapeCasts_S4x256_S4x1x256)
      Facts₀.broadcasts_S4x1x256_S4x64x256)
    (broadcastTo S4x64x256 (shapeCast S4x64x1 c Facts₀.shapeCasts_S4x64x1_S4x64x1)
      Facts₀.broadcasts_S4x64x1_S4x64x256))

/-- What is stored of a group. -/
def grpOut (a : FVec F S4x256 .f32) (v : FVec F S4x64x256 .f32) (c : Vec F S4x64x1 .f32) : FVec F S4x64x256 .f32 :=
  shapeCast S4x64x256 (grp a v c) Facts₀.shapeCasts_S4x64x256_S4x64x256

/-- What a group hands to the next block. -/
def grpCarry (a : FVec F S4x256 .f32) (v : FVec F S4x64x256 .f32) (c : Vec F S4x64x1 .f32) : FVec F S4x64x1 .f32 :=
  shapeCast S4x64x1 (extractStridedSlice S4x64x1 ![0, 0, 255] (grp a v c) Facts₀.slices_S4x64x256_o0_0_255_S4x64x1)
    Facts₀.shapeCasts_S4x64x1_S4x64x1

end

theorem grp_apply (a : FVec Ideal S4x256 .f32) (v : FVec Ideal S4x64x256 .f32) (c : Vec Ideal S4x64x1 .f32)
    (ar : Fin 4 → ℕ → ℝ) (vr : Fin 4 → Fin 64 → ℕ → ℝ) (cr : Fin 4 → Fin 64 → ℝ)
    (ha : ∀ l t, a (ix2 l t) = ((ar l t.val : ℝ) : EReal)) (hv : ∀ l r t, v (ix3 l r t) = ((vr l r t.val : ℝ) : EReal))
    (hc : ∀ l r, c (ix3 l r 0) = ((cr l r : ℝ) : EReal)) (l : Fin 4) (r : Fin 64) (t : Fin 256) :
    grp a v c (ix3 l r t) = ((C (ar l) (vr l r) (cr l r) t.val : ℝ) : EReal) := by
  have p0 : IsP 1 ar a := fun l t => by rw [ha]; simp [P]
  have w0 : IsW 1 ar vr v := fun l r t => by rw [hv]; simp [W]
  have p1 : IsP 2 ar (A1 a) := p0.step (by norm_num) _ _ _
  have p2 : IsP 4 ar (A2 a) := p1.step (by norm_num) _ _ _
  have p3 : IsP 8 ar (A3 a) := p2.step (by norm_num) _ _ _
  have p4 : IsP 16 ar (A4 a) := p3.step (by norm_num) _ _ _
  have p5 : IsP 32 ar (A5 a) := p4.step (by norm_num) _ _ _
  have p6 : IsP 64 ar (A6 a) := p5.step (by norm_num) _ _ _
  have p7 : IsP 128 ar (A7 a) := p6.step (by norm_num) _ _ _
  have p8 : IsP 256 ar (A8 a) := p7.step (by norm_num) _ _ _
  have w8 : IsW 256 ar vr (scan a v) :=
    (((((((w0.step p0 (by norm_num) _ _ _).step p1 (by norm_num) _ _ _).step p2 (by norm_num) _ _ _).step p3
      (by norm_num) _ _ _).step p4 (by norm_num) _ _ _).step p5 (by norm_num) _ _ _).step p6 (by norm_num) _ _ _).step p7
      (by norm_num) _ _ _
  have e : grp a v c (ix3 l r t) = scan a v (ix3 l r t) + A8 a (ix2 l t) * c (ix3 l r 0) := by
    pointwise [grp]
  rw [e, w8, p8, hc, ← W_C _ _ _ 256 t.val t.isLt]
  norm_cast

end Cert.KernelIdeal.Body
-- ==== Proof.Heads.lean ====
module

public import proofs.«01_k».proof.Proof.Scan

@[expose] public section

set_option maxRecDepth 16384

noncomputable section

namespace Cert.KernelIdeal.Body

open Cert.KernelIdeal Cert.KernelIdeal.Gen Idealize.ShloMosaic Idealize.SL.Sem

section
variable {F : FTy → Type} [FloatOps F]

/-- The scaled scores of one head against the keys. -/
def scores (ks : Vec F S64x64 .f32) (q : FVec F S64x256 .f32) : FVec F S64x256 .f32 :=
  mulf (matmul dot_S64x64_S64x256_S64x256_1_0_0_1_n_n none ks q (constant S64x256 .f32 0x00000000#32))
    (broadcast S64x256 (Scalar.ofBits .f32 0x3E000000#32))

/-- The exponentials of the scores less their column's largest. -/
def expo (s : FVec F S64x256 .f32) : FVec F S64x256 .f32 :=
  exp (subf s (broadcastTo S64x256 (shapeCast S1x256
    (multiReduction .maximumf [0] S256 s 0xFF800000#32 Facts₀.reduces_S64x256_S256 (.inl rfl) rfl)
    Facts₀.shapeCasts_S256_S1x256) Facts₀.broadcasts_S1x256_S64x256))

/-- The softmax of each column. -/
def soft (s : FVec F S64x256 .f32) : FVec F S64x256 .f32 :=
  divf (expo s) (broadcastTo S64x256 (shapeCast S1x256
    (multiReduction .add [0] S256 (expo s) 0x00000000#32 Facts₀.reduces_S64x256_S256 (.inl rfl) rfl)
    Facts₀.shapeCasts_S256_S1x256) Facts₀.broadcasts_S1x256_S64x256)

/-- Whether bit `b` of the column number is set. -/
def bit (b : BitVec 32) : IVec S64x256 1 :=
  cmpi .eq (andi (shrsi (iota .tc S64x256 32 [1] Facts₀.iota_S64x256_d1_w32) (broadcast S64x256 b))
    (broadcast S64x256 1#32)) (broadcast S64x256 1#32)

/-- The columns whose bit `b` is set, rotated up by `d` rows. -/
def rot (d e : ℕ) (b : BitVec 32) (h₁ : Shape.Slices (s := S64x256) ![d, 0] ⟨2, ![e, 256]⟩)
    (h₂ : Shape.Slices (s := S64x256) ![0, 0] ⟨2, ![d, 256]⟩)
    (hc : Shape.Concatenates [⟨2, ![e, 256]⟩, ⟨2, ![d, 256]⟩] S64x256 0) (v : FVec F S64x256 .f32) : FVec F S64x256 .f32 :=
  select (bit b) (concatenate S64x256 0 [⟨⟨2, ![e, 256]⟩, extractStridedSlice _ ![d, 0] v h₁⟩,
    ⟨⟨2, ![d, 256]⟩, extractStridedSlice _ ![0, 0] v h₂⟩] hc) v

/-- Every column rotated up by its own number of rows. -/
def shear (v : FVec F S64x256 .f32) : FVec F S64x256 .f32 :=
  rot 32 32 5#32 (by decide) (by decide) (by decide) <| rot 16 48 4#32 (by decide) (by decide) (by decide) <|
  rot 8 56 3#32 (by decide) (by decide) (by decide) <| rot 4 60 2#32 (by decide) (by decide) (by decide) <|
  rot 2 62 1#32 (by decide) (by decide) (by decide) <| rot 1 63 0#32 (by decide) (by decide) (by decide) v

/-- One head's rows of a projection. -/
def hd (o : ℕ) (hs : Shape.Slices (s := S512x256) ![o, 0] S64x256) (q : FVec F S512x256 .f32) : FVec F S64x256 .f32 :=
  extractStridedSlice S64x256 ![o, 0] q hs

/-- One head's write weights. -/
def aw (o : ℕ) (hs : Shape.Slices (s := S512x256) ![o, 0] S64x256) (ks : Vec F S64x64 .f32) (q : FVec F S512x256 .f32) :
    FVec F S64x256 .f32 :=
  shear (soft (scores ks (hd o hs q)))

/-- What the write weights of the eight heads leave of the decay. -/
def decay (ks : Vec F S64x64 .f32) (q : FVec F S512x256 .f32) : FVec F S64x256 .f32 :=
  subf (broadcast S64x256 (Scalar.ofBits .f32 0x3F800000#32))
    (addf (addf (addf (aw 0 (by decide) ks q) (aw 64 (by decide) ks q)) (addf (aw 128 (by decide) ks q) (aw 192 (by decide) ks q)))
      (addf (addf (aw 256 (by decide) ks q) (aw 320 (by decide) ks q)) (addf (aw 384 (by decide) ks q) (aw 448 (by decide) ks q))))

/-- One head's contribution to what is written. -/
def outer (o : ℕ) (hs : Shape.Slices (s := S512x256) ![o, 0] S64x256) (ks : Vec F S64x64 .f32) (q v : FVec F S512x256 .f32) :
    FVec F S64x64x256 .f32 :=
  mulf (broadcastTo S64x64x256 (shapeCast S64x1x256 (aw o hs ks q) Facts₀.shapeCasts_S64x256_S64x1x256)
      Facts₀.broadcasts_S64x1x256_S64x64x256)
    (broadcastTo S64x64x256 (shapeCast S1x64x256 (hd o hs v) Facts₀.shapeCasts_S64x256_S1x64x256)
      Facts₀.broadcasts_S1x64x256_S64x64x256)

/-- What the eight heads write. -/
def written (ks : Vec F S64x64 .f32) (q v : FVec F S512x256 .f32) : FVec F S64x64x256 .f32 :=
  shapeCast S64x64x256
    (addf (addf (addf (addf (addf (addf (addf (addf (broadcast S64x64x256 (Scalar.ofBits .f32 0x00000000#32))
      (outer 0 (by decide) ks q v)) (outer 64 (by decide) ks q v)) (outer 128 (by decide) ks q v))
      (outer 192 (by decide) ks q v)) (outer 256 (by decide) ks q v)) (outer 320 (by decide) ks q v))
      (outer 384 (by decide) ks q v)) (outer 448 (by decide) ks q v)) Facts₀.shapeCasts_S64x64x256_S64x64x256

/-- One head read back from the memory. -/
def hread (o : ℕ) (hs : Shape.Slices (s := S512x256) ![o, 0] S64x256) (ks : Vec F S64x64 .f32) (q : FVec F S512x256 .f32)
    (M : Vec F S64x64x256 .f32) : FVec F S64x256 .f32 :=
  multiReduction .add [0] S64x256 (mulf (broadcastTo S64x64x256 (shapeCast S64x1x256 (soft (scores ks (hd o hs q)))
    Facts₀.shapeCasts_S64x256_S64x1x256) Facts₀.broadcasts_S64x1x256_S64x64x256) M) 0x00000000#32
    Facts₀.reduces_S64x64x256_S64x256 (.inl rfl) rfl

/-- The eight heads read back, one row per position. -/
def reads (ks : Vec F S64x64 .f32) (q : FVec F S512x256 .f32) (M : Vec F S64x64x256 .f32) : FVec F S256x512 .f32 :=
  transpose S256x512 [1, 0] (concatenate S512x256 0
    [⟨S64x256, hread 0 (by decide) ks q M⟩, ⟨S64x256, hread 64 (by decide) ks q M⟩,
     ⟨S64x256, hread 128 (by decide) ks q M⟩, ⟨S64x256, hread 192 (by decide) ks q M⟩,
     ⟨S64x256, hread 256 (by decide) ks q M⟩, ⟨S64x256, hread 320 (by decide) ks q M⟩,
     ⟨S64x256, hread 384 (by decide) ks q M⟩, ⟨S64x256, hread 448 (by decide) ks q M⟩] Facts₀.concatenates_S64x256_S64x256_S64x256_S64x256_S64x256_S64x256_S64x256_S64x256_S512x256_d0) Facts₀.transposes_S512x256_p1_0_S256x512

end

/-! ### The printed payloads are these functions -/

section
variable {F : FTy → Type} [FloatOps F] (r : Vec F S64x64 .f32) (r_1 r_2 r_3 : FVec F S512x256 .f32)

theorem aw0_eq : k0_pay16 (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) (k0_pay14 r r_1 k0_pay7 k0_pay8 k0_pay9) (k0_pay15 r r_1 k0_pay7 k0_pay8 k0_pay9) = aw 0 (by decide) r r_1 := rfl

theorem aw64_eq : k0_pay17 r r_1 k0_pay7 k0_pay8 (k0_pay10 k0_pay9) (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) = aw 64 (by decide) r r_1 := rfl

theorem aw128_eq : k0_pay20 k0_pay7 k0_pay8 (k0_pay10 k0_pay9) (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) (k0_pay18 r r_1) (k0_pay19 r r_1) = aw 128 (by decide) r r_1 := rfl

theorem aw192_eq : k0_pay24 (k0_pay10 k0_pay9) (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) (k0_pay21 r r_1 k0_pay7 k0_pay8) (k0_pay22 r r_1 k0_pay7 k0_pay8) (k0_pay23 r r_1 k0_pay7 k0_pay8) = aw 192 (by decide) r r_1 := rfl

theorem aw256_eq : k0_pay25 r r_1 k0_pay7 k0_pay8 (k0_pay10 k0_pay9) (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) = aw 256 (by decide) r r_1 := rfl

theorem aw320_eq : k0_pay28 k0_pay7 k0_pay8 (k0_pay10 k0_pay9) (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) (k0_pay26 r r_1) k0_pay27 = aw 320 (by decide) r r_1 := rfl

theorem aw384_eq : k0_pay31 k0_pay8 (k0_pay10 k0_pay9) (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) (k0_pay29 r r_1 k0_pay7) (k0_pay30 r r_1 k0_pay7) = aw 384 (by decide) r r_1 := rfl

theorem aw448_eq : k0_pay32 r r_1 k0_pay7 k0_pay8 (k0_pay10 k0_pay9) (k0_pay11 (iota Kind.tc S64x256 32 [1] Facts₀.iota_S64x256_d1_w32)) (k0_pay12 (iota Kind.tc S64x256 32 [1] Facts₀.iota_S64x256_d1_w32)) (k0_pay13 (iota Kind.tc S64x256 32 [1] Facts₀.iota_S64x256_d1_w32)) = aw 448 (by decide) r r_1 := rfl

theorem decay_eq : (fun r_6 r_7 r_10 r_14 r_15 r_17 r_20 r_21 : FVec F S64x256 .f32 => k0_pay35 r_15 r_17 r_20 r_21 (k0_pay33 r_6 r_7) (k0_pay34 r_10 r_14)) (aw 0 (by decide) r r_1) (aw 64 (by decide) r r_1) (aw 128 (by decide) r r_1) (aw 192 (by decide) r r_1) (aw 256 (by decide) r r_1) (aw 320 (by decide) r r_1) (aw 384 (by decide) r r_1) (aw 448 (by decide) r r_1) = decay r r_1 := rfl

theorem written_eq : (fun r_6 r_7 r_10 r_14 r_15 r_17 r_20 r_21 : FVec F S64x256 .f32 => k0_pay38 r_2 (k0_pay36 r_2 r_6 r_7 r_10 r_14 r_15 r_17 r_20) (k0_pay37 r_21)) (aw 0 (by decide) r r_1) (aw 64 (by decide) r r_1) (aw 128 (by decide) r r_1) (aw 192 (by decide) r r_1) (aw 256 (by decide) r r_1) (aw 320 (by decide) r r_1) (aw 384 (by decide) r r_1) (aw 448 (by decide) r r_1) = written r r_1 r_2 := rfl

theorem reads_eq (M : Vec F S64x64x256 .f32) : k0_pay262 r r_3 M (k0_pay253 r r_3 M) (k0_pay254 r r_3 M) (k0_pay257 M (k0_pay255 r r_3) (k0_pay256 r r_3)) (k0_pay258 r r_3 M) (k0_pay259 r r_3 M) (k0_pay260 r r_3) (k0_pay261 r r_3) = reads r r_3 M := rfl

end

end Cert.KernelIdeal.Body
-- ==== Proof.Index.lean ====
module

public import proofs.«01_k».proof.Proof.Heads
public import proofs.«01_k».proof.Proof.Weights
public import Idealize.ShloMosaic.Lib.Pointwise

@[expose] public section

set_option maxRecDepth 16384

noncomputable section

namespace Cert.KernelIdeal.Body

open Cert.KernelIdeal Cert.KernelIdeal.Gen Idealize.ShloMosaic Idealize.SL.Sem Cert.Barrel

theorem scores_at (ks : Vec Ideal S64x64 .f32) (q : FVec Ideal S64x256 .f32) (l : Fin 64) (t : Fin 256) :
    scores ks q (ix2 l t) = sc (fun l d => ks (ix2 l d)) (fun d => q (ix2 d t)) l := by
  pointwise [scores]
  rfl

theorem soft_at (s : FVec Ideal S64x256 .f32) (l : Fin 64) (t : Fin 256) :
    soft s (ix2 l t) = sm (fun l => s (ix2 l t)) l := by
  pointwise [soft, expo]
  rfl

/-- The choice that a bit of the column number makes. -/
theorem pick {α : Type} (b : BitVec 32) (d : ℕ)
    (hb : ∀ t : Fin 256, IntOp.cmpi CmpIPredicate.eq (IntOp.andi (IntOp.shrsi ArithUnit.vector (BitVec.ofNat 32 t.val) b) 1#32) 1#32 =
      if t.val / d % 2 = 1 then 1#1 else 0#1) (t : Fin 256) (x y : α) :
    Scalar.select (IntOp.cmpi CmpIPredicate.eq (IntOp.andi (IntOp.shrsi ArithUnit.vector (BitVec.ofNat 32 t.val) b) 1#32) 1#32) x y =
      if t.val / d % 2 = 1 then x else y := by
  rw [hb]
  split_ifs <;> rfl

theorem rot32 (v : FVec Ideal S64x256 .f32) (l : Fin 64) (t : Fin 256) :
    rot 32 32 5#32 (by decide) (by decide) (by decide) v (ix2 l t) = v (ix2 (turn (t.val / 32 % 2 * 32) l) t) := by
  pointwise [rot, bit]
  rw [pick 5#32 32 (by decide +kernel)]
  split_ifs <;> (congr 2; apply Fin.ext; simp only [turn]; omega)

theorem rot16 (v : FVec Ideal S64x256 .f32) (l : Fin 64) (t : Fin 256) :
    rot 16 48 4#32 (by decide) (by decide) (by decide) v (ix2 l t) = v (ix2 (turn (t.val / 16 % 2 * 16) l) t) := by
  pointwise [rot, bit]
  rw [pick 4#32 16 (by decide +kernel)]
  split_ifs <;> (congr 2; apply Fin.ext; simp only [turn]; omega)

theorem rot8 (v : FVec Ideal S64x256 .f32) (l : Fin 64) (t : Fin 256) :
    rot 8 56 3#32 (by decide) (by decide) (by decide) v (ix2 l t) = v (ix2 (turn (t.val / 8 % 2 * 8) l) t) := by
  pointwise [rot, bit]
  rw [pick 3#32 8 (by decide +kernel)]
  split_ifs <;> (congr 2; apply Fin.ext; simp only [turn]; omega)

theorem rot4 (v : FVec Ideal S64x256 .f32) (l : Fin 64) (t : Fin 256) :
    rot 4 60 2#32 (by decide) (by decide) (by decide) v (ix2 l t) = v (ix2 (turn (t.val / 4 % 2 * 4) l) t) := by
  pointwise [rot, bit]
  rw [pick 2#32 4 (by decide +kernel)]
  split_ifs <;> (congr 2; apply Fin.ext; simp only [turn]; omega)

theorem rot2 (v : FVec Ideal S64x256 .f32) (l : Fin 64) (t : Fin 256) :
    rot 2 62 1#32 (by decide) (by decide) (by decide) v (ix2 l t) = v (ix2 (turn (t.val / 2 % 2 * 2) l) t) := by
  pointwise [rot, bit]
  rw [pick 1#32 2 (by decide +kernel)]
  split_ifs <;> (congr 2; apply Fin.ext; simp only [turn]; omega)

theorem rot1 (v : FVec Ideal S64x256 .f32) (l : Fin 64) (t : Fin 256) :
    rot 1 63 0#32 (by decide) (by decide) (by decide) v (ix2 l t) = v (ix2 (turn (t.val / 1 % 2 * 1) l) t) := by
  pointwise [rot, bit]
  rw [pick 0#32 1 (by decide +kernel)]
  split_ifs <;> (congr 2; apply Fin.ext; simp only [turn]; omega)

theorem shear_at (v : FVec Ideal S64x256 .f32) (l : Fin 64) (t : Fin 256) :
    shear v (ix2 l t) = v (ix2 (turn t.val l) t) := by
  unfold shear
  rw [rot32, rot16, rot8, rot4, rot2, rot1]
  simp only [turn_turn]
  rw [turn_congr (b := t.val)]
  omega

theorem hd_at (o : ℕ) (hs : Shape.Slices (s := S512x256) ![o, 0] S64x256) (ho : o + 64 ≤ 512) (q : FVec Ideal S512x256 .f32)
    (d : Fin 64) (t : Fin 256) : hd o hs q (ix2 d t) = q (ix2 ⟨o + d.val, by omega⟩ t) := by
  pointwise [hd]

theorem aw_at (o : ℕ) (hs : Shape.Slices (s := S512x256) ![o, 0] S64x256) (ho : o + 64 ≤ 512) (ks : Vec Ideal S64x64 .f32)
    (q : FVec Ideal S512x256 .f32) (l : Fin 64) (t : Fin 256) :
    aw o hs ks q (ix2 l t) =
      sm (sc (fun l d => ks (ix2 l d)) (fun d => q (ix2 ⟨o + d.val, by omega⟩ t))) (turn t.val l) := by
  unfold aw
  rw [shear_at, soft_at]
  congr 1
  funext x
  rw [scores_at]
  congr 1
  funext d
  exact hd_at o hs ho q d t

theorem hread_at (o : ℕ) (hs : Shape.Slices (s := S512x256) ![o, 0] S64x256) (ho : o + 64 ≤ 512) (ks : Vec Ideal S64x64 .f32)
    (q : FVec Ideal S512x256 .f32) (M : Vec Ideal S64x64x256 .f32) (r : Fin 64) (t : Fin 256) :
    hread o hs ks q M (ix2 r t) =
      ∑ l, sm (sc (fun l d => ks (ix2 l d)) (fun d => q (ix2 ⟨o + d.val, by omega⟩ t))) l * M (ix3 l r t) := by
  pointwise [hread]
  refine Finset.sum_congr rfl fun l _ => ?_
  rw [soft_at]
  congr 2
  funext x
  rw [scores_at]
  congr 1
  funext d
  exact hd_at o hs ho q d t

/-- One row of a 512-row projection, by head and entry. -/
def row (h : Fin 8) (d : Fin 64) : Fin 512 := ⟨64 * h.val + d.val, by omega⟩

/-- The weight of line `l` for head `h` at column `t`, before the rotation. -/
def wgt (ks : Vec Ideal S64x64 .f32) (q : FVec Ideal S512x256 .f32) (h : Fin 8) (t : Fin 256) : Fin 64 → EReal :=
  sm (sc (fun l d => ks (ix2 l d)) (fun d => q (ix2 (row h d) t)))

theorem decay_at (ks : Vec Ideal S64x64 .f32) (q : FVec Ideal S512x256 .f32) (l : Fin 64) (t : Fin 256) :
    decay ks q (ix2 l t) = Ideal.ofBits FTy.f32 0x3F800000#32 - ∑ h, wgt ks q h t (turn t.val l) := by
  pointwise [decay]
  rw [aw_at 0 _ (by decide), aw_at 64 _ (by decide), aw_at 128 _ (by decide), aw_at 192 _ (by decide),
    aw_at 256 _ (by decide), aw_at 320 _ (by decide), aw_at 384 _ (by decide), aw_at 448 _ (by decide)]
  congr 1
  simp only [Fin.sum_univ_succ, Fin.sum_univ_zero, add_zero, add_assoc]
  rfl

theorem written_at (ks : Vec Ideal S64x64 .f32) (q v : FVec Ideal S512x256 .f32) (l r : Fin 64) (t : Fin 256) :
    written ks q v (ix3 l r t) = ∑ h, wgt ks q h t (turn t.val l) * v (ix2 (row h r) t) := by
  pointwise [written, outer]
  rw [aw_at 0 _ (by decide), aw_at 64 _ (by decide), aw_at 128 _ (by decide), aw_at 192 _ (by decide),
    aw_at 256 _ (by decide), aw_at 320 _ (by decide), aw_at 384 _ (by decide), aw_at 448 _ (by decide),
    hd_at 0 _ (by decide), hd_at 64 _ (by decide), hd_at 128 _ (by decide), hd_at 192 _ (by decide),
    hd_at 256 _ (by decide), hd_at 320 _ (by decide), hd_at 384 _ (by decide), hd_at 448 _ (by decide)]
  simp only [Fin.sum_univ_succ, Fin.sum_univ_zero, add_zero, (zero_add : ∀ a : EReal, 0 + a = a), add_assoc]
  rfl

theorem hread_row (o : ℕ) (hs : Shape.Slices (s := S512x256) ![o, 0] S64x256) (ks : Vec Ideal S64x64 .f32)
    (q : FVec Ideal S512x256 .f32) (M : Vec Ideal S64x64x256 .f32) (h : Fin 8) (r r' : Fin 64) (t : Fin 256)
    (e : o = 64 * h.val) (er : r'.val = r.val) : hread o hs ks q M (ix2 r' t) = ∑ l, wgt ks q h t l * M (ix3 l r t) := by
  subst e
  obtain rfl := Fin.ext er
  rw [hread_at _ _ (by omega)]
  rfl

theorem reads_at (ks : Vec Ideal S64x64 .f32) (q : FVec Ideal S512x256 .f32) (M : Vec Ideal S64x64x256 .f32) (h : Fin 8)
    (r : Fin 64) (t : Fin 256) :
    reads ks q M (ix2 t (row h r)) = ∑ l, wgt ks q h t l * M (ix3 l r t) := by
  pointwise [reads]
  have hr : (row h r).val = 64 * h.val + r.val := rfl
  by_cases h0 : (row h r).val < 64
  · rw [dif_pos h0]
    exact hread_row _ _ ks q M h r _ t (by omega) (by show (row h r).val = r.val; omega)
  rw [dif_neg h0]
  by_cases h1 : (row h r).val - 64 < 64
  · rw [dif_pos h1]
    exact hread_row _ _ ks q M h r _ t (by omega) (by show (row h r).val - 64 = r.val; omega)
  rw [dif_neg h1]
  by_cases h2 : (row h r).val - 64 - 64 < 64
  · rw [dif_pos h2]
    exact hread_row _ _ ks q M h r _ t (by omega) (by show (row h r).val - 64 - 64 = r.val; omega)
  rw [dif_neg h2]
  by_cases h3 : (row h r).val - 64 - 64 - 64 < 64
  · rw [dif_pos h3]
    exact hread_row _ _ ks q M h r _ t (by omega) (by show (row h r).val - 64 - 64 - 64 = r.val; omega)
  rw [dif_neg h3]
  by_cases h4 : (row h r).val - 64 - 64 - 64 - 64 < 64
  · rw [dif_pos h4]
    exact hread_row _ _ ks q M h r _ t (by omega) (by show (row h r).val - 64 - 64 - 64 - 64 = r.val; omega)
  rw [dif_neg h4]
  by_cases h5 : (row h r).val - 64 - 64 - 64 - 64 - 64 < 64
  · rw [dif_pos h5]
    exact hread_row _ _ ks q M h r _ t (by omega) (by show (row h r).val - 64 - 64 - 64 - 64 - 64 = r.val; omega)
  rw [dif_neg h5]
  by_cases h6 : (row h r).val - 64 - 64 - 64 - 64 - 64 - 64 < 64
  · rw [dif_pos h6]
    exact hread_row _ _ ks q M h r _ t (by omega) (by show (row h r).val - 64 - 64 - 64 - 64 - 64 - 64 = r.val; omega)
  rw [dif_neg h6]
  exact hread_row _ _ ks q M h r _ t (by omega) (by show (row h r).val - 64 - 64 - 64 - 64 - 64 - 64 - 64 = r.val; omega)

theorem proj4_at (x : Vec Ideal S1x256x1024 .f32) (w : Vec Ideal S512x1024 .f32) (l : Fin 512) (t : Fin 256) :
    k0_pay4 x w (ix2 l t) = ∑ c, w (ix2 l c) * x (ix3 0 t c) := by
  pointwise [k0_pay4, k0_pay3]

theorem proj5_at (x : Vec Ideal S1x256x1024 .f32) (w : Vec Ideal S512x1024 .f32) (l : Fin 512) (t : Fin 256) :
    k0_pay5 x w (ix2 l t) = ∑ c, w (ix2 l c) * x (ix3 0 t c) := by
  pointwise [k0_pay5, k0_pay3]

theorem proj6_at (x : Vec Ideal S1x256x1024 .f32) (w : Vec Ideal S512x1024 .f32) (l : Fin 512) (t : Fin 256) :
    k0_pay6 x w (ix2 l t) = ∑ c, w (ix2 l c) * x (ix3 0 t c) := by
  pointwise [k0_pay6, k0_pay3]

theorem store_at (y : FVec Ideal S256x512 .f32) (w : Vec Ideal S512x1024 .f32) (e : Fin 1024) (t : Fin 256) :
    k0_pay1 y w (ix3 0 t e) = ∑ x, y (ix2 t x) * w (ix2 x e) := by
  pointwise [k0_pay1]

end Cert.KernelIdeal.Body
-- ==== Proof.Spec.lean ====
module

public import proofs.«01_k».proof.Proof.Scan
public import proofs.«01_k».proof.Proof.Weights

@[expose] public section

noncomputable section

namespace Cert.Barrel

open Idealize.ShloMosaic Cert.KernelIdeal.Body

/-! ## The function both programs compute -/

/-- The position that a number names. -/
def pos (k : ℕ) : Fin 4096 := ⟨k % 4096, Nat.mod_lt _ (by decide)⟩

theorem pos_val (t : Fin 4096) : pos t.val = t := Fin.ext (Nat.mod_eq_of_lt t.isLt)

/-- The head of a row of the projections. -/
def hOf (x : Fin 512) : Fin 8 := ⟨x.val / 64, by have := x.isLt; omega⟩

/-- Its row within the head. -/
def rOf (x : Fin 512) : Fin 64 := ⟨x.val % 64, Nat.mod_lt _ (by decide)⟩

/-- The input by its coordinates. -/
def fX (x : FVec Ideal ⟨3, ![4, 4096, 1024]⟩ .f32) : Fin 4 → Fin 4096 → Fin 1024 → EReal := fun n t c => x (ix3 n t c)
/-- The keys by their coordinates. -/
def fK (k : FVec Ideal ⟨2, ![64, 64]⟩ .f32) : Fin 64 → Fin 64 → EReal := fun l d => k (ix2 l d)
/-- A projection's weights by their coordinates. -/
def fW (w : FVec Ideal ⟨3, ![8, 64, 1024]⟩ .f32) : Fin 8 → Fin 64 → Fin 1024 → EReal := fun h d c => w (ix3 h d c)
/-- The output's weights by their coordinates. -/
def fO (w : FVec Ideal ⟨2, ![512, 1024]⟩ .f32) : Fin 512 → Fin 1024 → EReal := fun y e => w (ix2 y e)

section
variable (K : Fin 64 → Fin 64 → EReal) (Wq Wr Wv : Fin 8 → Fin 64 → Fin 1024 → EReal) (Wo : Fin 512 → Fin 1024 → EReal)
  (X : Fin 4 → Fin 4096 → Fin 1024 → EReal)

/-- A projection of the input. -/
def prj (W : Fin 8 → Fin 64 → Fin 1024 → EReal) (n : Fin 4) (h : Fin 8) (t : Fin 4096) (d : Fin 64) : EReal :=
  ∑ c, W h d c * X n t c

/-- The weights over the lines. -/
def wt (W : Fin 8 → Fin 64 → Fin 1024 → EReal) (n : Fin 4) (h : Fin 8) (t : Fin 4096) : Fin 64 → EReal :=
  sm (sc K (prj X W n h t))

/-- The decay of line `l` at step `k`. -/
def gat (n : Fin 4) (l : Fin 64) (k : ℕ) : EReal :=
  Ideal.ofBits FTy.f32 0x3F800000#32 - ∑ h, wt K X Wq n h (pos k) (turn k l)

/-- What is written to line `l` at step `k`. -/
def wrt (n : Fin 4) (l r : Fin 64) (k : ℕ) : EReal :=
  ∑ h, wt K X Wq n h (pos k) (turn k l) * prj X Wv n h (pos k) r

/-- The result. -/
def res (n : Fin 4) (t : Fin 4096) (e : Fin 1024) : EReal :=
  ∑ x, (∑ l, wt K X Wr n (hOf x) t l * mem (gat K Wq X n l) (wrt K Wq Wv X n l (rOf x)) 0 (t.val + 1)) * Wo x e

/-! ### Finite inputs -/

variable {K Wq Wv X}

theorem prj_real {W : Fin 8 → Fin 64 → Fin 1024 → EReal} (hW : ∀ h d c, Rl (W h d c)) (hX : ∀ n t c, Rl (X n t c))
    (n h t d) : Rl (prj X W n h t d) := Rl.sum _ fun c => (hW h d c).mul (hX n t c)

theorem wt_real {W : Fin 8 → Fin 64 → Fin 1024 → EReal} (hK : ∀ l d, Rl (K l d)) (hW : ∀ h d c, Rl (W h d c))
    (hX : ∀ n t c, Rl (X n t c)) (n h t l) : Rl (wt K X W n h t l) :=
  sm_real (fun l => sc_real hK (prj_real hW hX n h t) l) l

theorem gat_real (hK : ∀ l d, Rl (K l d)) (hW : ∀ h d c, Rl (Wq h d c)) (hX : ∀ n t c, Rl (X n t c)) (n l k) :
    Rl (gat K Wq X n l k) := ofBits_one.sub (Rl.sum _ fun h => wt_real hK hW hX n h _ _)

theorem wrt_real (hK : ∀ l d, Rl (K l d)) (hW : ∀ h d c, Rl (Wq h d c)) (hV : ∀ h d c, Rl (Wv h d c))
    (hX : ∀ n t c, Rl (X n t c)) (n l r k) : Rl (wrt K Wq Wv X n l r k) :=
  Rl.sum _ fun h => (wt_real hK hW hX n h _ _).mul (prj_real hV hX n h _ r)

end

/-! ### The recurrence over the reals -/

theorem mem_C (a v : ℕ → ℝ) (c : ℝ) (k : ℕ) :
    mem (fun t => (a t : EReal)) (fun t => (v t : EReal)) (c : EReal) (k + 1) = ((C a v c k : ℝ) : EReal) := by
  induction k with
  | zero => simp only [mem, C]; push_cast; rfl
  | succ k ih =>
    rw [mem, ih]
    simp only [C]
    push_cast
    rfl

theorem C_shift (a v : ℕ → ℝ) (c : ℝ) (s k : ℕ) :
    C (fun t => a (s + 1 + t)) (fun t => v (s + 1 + t)) (C a v c s) k = C a v c (s + 1 + k) := by
  induction k with
  | zero => rfl
  | succ k ih =>
    rw [C, ih]
    rfl

/-- The recurrence over one block of 256 steps, from what the blocks before left. -/
theorem C_first (a v : ℕ → ℝ) (j k : ℕ) (h : j = 0) :
    C (fun t => a (256 * j + t)) (fun t => v (256 * j + t)) 0 k = C a v 0 (256 * j + k) := by
  subst h
  simp only [Nat.mul_zero, Nat.zero_add]

theorem C_next (a v : ℕ → ℝ) (j i k : ℕ) (h : j = i + 1) :
    C (fun t => a (256 * j + t)) (fun t => v (256 * j + t)) (C a v 0 (256 * i + 255)) k = C a v 0 (256 * j + k) := by
  have e : 256 * j = 256 * i + 255 + 1 := by omega
  rw [e]
  exact C_shift a v 0 (256 * i + 255) k

end Cert.Barrel
-- ==== Proof.Blocks.lean ====
module

public import proofs.«01_k».proof.Proof.Index
public import proofs.«01_k».proof.Proof.Spec
public import proofs.«01_k».proof.Proof.Gen.KernelIdeal.Value
public import Idealize.ShloMosaic.Lib.Pipeline.ValueKit

@[expose] public section

set_option maxRecDepth 16384

noncomputable section

namespace Cert.KernelIdeal.Body

open Cert.KernelIdeal Cert.KernelIdeal.Gen Cert.Barrel
open Idealize.ShloMosaic Idealize.ShloMosaic.TcCoe Idealize.ShloMosaic.Tactic Idealize.SL.Sem

variable (m : (ℓ : Loc nD τ sig) → Buf (Elt Ideal) ℓ) (c : Dev nD) (t : Fin cfg0.N)

/-- The blocks that the windows read at a point. -/
theorem idx : ∀ t : Fin cfg0.N, win0_0.index t = ![t.val / 16, t.val % 16, 0] ∧ win0_1.index t = ![0, 0] ∧
    win0_2.index t = ![0, 0] ∧ win0_3.index t = ![0, 0] ∧ win0_4.index t = ![0, 0] ∧ win0_5.index t = ![0, 0] :=
  (by decide +kernel : ∀ t : Fin grid0.N, _)

/-- The launch contents of the kernel's arguments. -/
abbrev L0 : FVec Ideal S4x4096x1024 .f32 := m ((c.tc : Thread nD τ).loc main_arg0)
abbrev L1 : FVec Ideal S64x64 .f32 := m ((c.tc : Thread nD τ).loc main_arg1)
abbrev L2 : FVec Ideal S8x64x1024 .f32 := m ((c.tc : Thread nD τ).loc main_arg2)
abbrev L3 : FVec Ideal S8x64x1024 .f32 := m ((c.tc : Thread nD τ).loc main_arg3)
abbrev L4 : FVec Ideal S8x64x1024 .f32 := m ((c.tc : Thread nD τ).loc main_arg4)
abbrev L5 : FVec Ideal S512x1024 .f32 := m ((c.tc : Thread nD τ).loc main_arg5)

theorem keys_blk (l d : Fin 64) : (iblk m c 4 t : Vec Ideal S64x64 .f32) (ix2 l d) = L1 m c (ix2 l d) := by
  blk_ext [iblk, V, idx t]

theorem out_blk (y : Fin 512) (e : Fin 1024) : (iblk m c 5 t : Vec Ideal S512x1024 .f32) (ix2 y e) = L5 m c (ix2 y e) := by
  blk_ext [iblk, V, idx t]

theorem x_blk (n : Fin 4) (s : Fin 4096) (u : Fin 256) (e : Fin 1024) (hn : n.val = t.val / 16) (hs : s.val = t.val % 16 * 256 + u.val) :
    (iblk m c 0 t : Vec Ideal S1x256x1024 .f32) (ix3 0 u e) = L0 m c (ix3 n s e) := by
  blk_ext [iblk, V, idx t]

theorem q_blk (h : Fin 8) (d : Fin 64) (e : Fin 1024) :
    (iblk m c 1 t : Vec Ideal S512x1024 .f32) (ix2 (row h d) e) = L2 m c (ix3 h d e) := by
  blk_ext! [iblk, V, idx t]
  all_goals (simp only [row]; omega)

theorem r_blk (h : Fin 8) (d : Fin 64) (e : Fin 1024) :
    (iblk m c 2 t : Vec Ideal S512x1024 .f32) (ix2 (row h d) e) = L3 m c (ix3 h d e) := by
  blk_ext! [iblk, V, idx t]
  all_goals (simp only [row]; omega)

theorem v_blk (h : Fin 8) (d : Fin 64) (e : Fin 1024) :
    (iblk m c 3 t : Vec Ideal S512x1024 .f32) (ix2 (row h d) e) = L4 m c (ix3 h d e) := by
  blk_ext! [iblk, V, idx t]
  all_goals (simp only [row]; omega)

/-! ### The stages of a point, over the launch contents -/

/-- The batch row of a point. -/
def rowOf (k : ℕ) : Fin 4 := ⟨k / 16 % 4, Nat.mod_lt _ (by decide)⟩

theorem x_at (u : Fin 256) (e : Fin 1024) :
    (iblk m c 0 t : Vec Ideal S1x256x1024 .f32) (ix3 0 u e) =
      fX (L0 m c) (rowOf t.val) (pos (256 * (t.val % 16) + u.val)) e := by
  have ht : t.val < 64 := lt_of_lt_of_eq t.isLt N_0
  refine x_blk m c t _ _ u e ?_ ?_
  · simp only [rowOf]
    omega
  · have := u.isLt
    simp only [pos]
    omega

theorem wq_at (h : Fin 8) (u : Fin 256) :
    wgt (iblk m c 4 t) (k0_pay4 (iblk m c 0 t) (iblk m c 1 t)) h u =
      wt (fK (L1 m c)) (fX (L0 m c)) (fW (L2 m c)) (rowOf t.val) h (pos (256 * (t.val % 16) + u.val)) := by
  unfold wgt
  simp only [proj4_at, keys_blk, q_blk, x_at]
  rfl

theorem wr_at (h : Fin 8) (u : Fin 256) :
    wgt (iblk m c 4 t) (k0_pay6 (iblk m c 0 t) (iblk m c 2 t)) h u =
      wt (fK (L1 m c)) (fX (L0 m c)) (fW (L3 m c)) (rowOf t.val) h (pos (256 * (t.val % 16) + u.val)) := by
  unfold wgt
  simp only [proj6_at, keys_blk, r_blk, x_at]
  rfl

theorem decay_pt (l : Fin 64) (u : Fin 256) :
    decay (iblk m c 4 t) (k0_pay4 (iblk m c 0 t) (iblk m c 1 t)) (ix2 l u) =
      gat (fK (L1 m c)) (fW (L2 m c)) (fX (L0 m c)) (rowOf t.val) l (256 * (t.val % 16) + u.val) := by
  rw [decay_at]
  simp only [wq_at]
  unfold gat
  rw [turn_congr (show u.val % 64 = (256 * (t.val % 16) + u.val) % 64 by omega) l]

theorem written_pt (l r : Fin 64) (u : Fin 256) :
    written (iblk m c 4 t) (k0_pay4 (iblk m c 0 t) (iblk m c 1 t)) (k0_pay5 (iblk m c 0 t) (iblk m c 3 t)) (ix3 l r u) =
      wrt (fK (L1 m c)) (fW (L2 m c)) (fW (L4 m c)) (fX (L0 m c)) (rowOf t.val) l r (256 * (t.val % 16) + u.val) := by
  rw [written_at]
  simp only [wq_at, proj5_at, v_blk, x_at]
  unfold wrt
  rw [turn_congr (show u.val % 64 = (256 * (t.val % 16) + u.val) % 64 by omega) l]
  rfl

theorem row_split (x : Fin 512) : row (hOf x) (rOf x) = x := by
  apply Fin.ext
  simp only [row, hOf, rOf]
  omega

/-- What a point stores, of memories that are the recurrence's. -/
theorem store_pt (M : Vec Ideal S64x64x256 .f32) (u : Fin 256) (e : Fin 1024)
    (hM : ∀ l r, M (ix3 l r u) = mem (gat (fK (L1 m c)) (fW (L2 m c)) (fX (L0 m c)) (rowOf t.val) l)
      (wrt (fK (L1 m c)) (fW (L2 m c)) (fW (L4 m c)) (fX (L0 m c)) (rowOf t.val) l r) 0 (256 * (t.val % 16) + u.val + 1)) :
    k0_pay1 (reads (iblk m c 4 t) (k0_pay6 (iblk m c 0 t) (iblk m c 2 t)) M) (iblk m c 5 t) (ix3 0 u e) =
      res (fK (L1 m c)) (fW (L2 m c)) (fW (L3 m c)) (fW (L4 m c)) (fO (L5 m c)) (fX (L0 m c)) (rowOf t.val)
        (pos (256 * (t.val % 16) + u.val)) e := by
  rw [store_at]
  unfold res
  refine Finset.sum_congr rfl fun x _ => ?_
  have ep : (pos (256 * (t.val % 16) + u.val)).val = 256 * (t.val % 16) + u.val := by
    have := u.isLt
    simp only [pos]
    omega
  have er := reads_at (iblk m c 4 t) (k0_pay6 (iblk m c 0 t) (iblk m c 2 t)) M (hOf x) (rOf x) u
  rw [row_split] at er
  rw [er, out_blk, ep]
  simp only [wr_at, hM]
  rfl

end Cert.KernelIdeal.Body
-- ==== Proof.Rows.lean ====
module

public import proofs.«01_k».proof.Proof.Scan
public import Idealize.ShloMosaic.Lib.Pipeline.ValueKit
public import Idealize.ShloMosaic.Lib.Pipeline.ReadBack

@[expose] public section

set_option maxRecDepth 16384

noncomputable section

namespace Cert.KernelIdeal.Body

open Cert.KernelIdeal Cert.KernelIdeal.Gen Idealize.ShloMosaic Idealize.SL.Sem

/-! ## A buffer of 64 rows rewritten four rows at a time -/

section
variable {sig : RefSig} {κ : Kind} {sp : Space} {e : EltTy} {Val : EltTy → Type} [∀ e, Nonempty (Val e)] {n : ℕ}

/-- The buffer's rows. -/
abbrev Sh (n : ℕ) : Shape := ⟨3, ![64, 64, n]⟩

/-- Four of them. -/
abbrev Sg (n : ℕ) : Shape := ⟨3, ![4, 64, n]⟩

/-- After these stores the first `o` rows hold `M` and the others still hold `V`. -/
def Upto (M V : (Sh n).Idx → Val e) (o : ℕ) (L : List (View.Piece Val (Sh n) e)) : Prop :=
  ∀ i : (Sh n).Idx, View.canon L i = if (i 0).val < o then M i else V i

theorem mem_rows (o : ℕ) (inb : ∀ a, (![o, 0, 0] : Fin 3 → ℕ) a + (Sg n).size a ≤ (Sh n).size a) (i : (Sh n).Idx) :
    i ∈ (Rect.unit (s := Sh n) ![o, 0, 0] (Sg n).size inb).set ↔ o ≤ (i 0).val ∧ (i 0).val < o + 4 := by
  rw [Rect.mem_set_unit]
  refine ⟨fun h => h 0, fun h a => ?_⟩
  match a with
  | 0 => exact h
  | 1 => exact ⟨Nat.zero_le _, by have := (i 1).isLt; simpa using this⟩
  | 2 => exact ⟨Nat.zero_le _, by have := (i 2).isLt; simpa using this⟩

theorem Upto.whole (M V : (Sh n).Idx → Val e) (inb : ∀ a, (![0, 0, 0] : Fin 3 → ℕ) a + (Sh n).size a ≤ (Sh n).size a) :
    Upto M V 0 [⟨Rect.unit ![0, 0, 0] (Sh n).size inb, V⟩] := by
  intro i
  rw [View.canon_cons_unit_lit]
  · simp
  · intro a
    match a with
    | 0 => rfl
    | 1 => rfl
    | 2 => rfl

theorem Upto.nil (M : (Sh n).Idx → Val e) : Upto M (View.canon []) 0 [] := by
  intro i; simp

theorem Upto.read {M V : (Sh n).Idx → Val e} {o : ℕ} {L : List (View.Piece Val (Sh n) e)} (h : Upto M V o L)
    (v : View sig κ sp (Sh n) e) (inb : ∀ a, (![o, 0, 0] : Fin 3 → ℕ) a + (Sg n).size a ≤ (Sh n).size a) :
    v.readCov L (Rect.unit (s := Sh n) ![o, 0, 0] (Sg n).size inb).toLoadRect =
      View.ld V (Rect.unit (s := Sh n) ![o, 0, 0] (Sg n).size inb) := by
  rw [View.readCov_eq_canon']
  funext j
  refine (h _).trans (if_neg ?_)
  simp only [LoadRect.idx, Rect.unit, Rect.toLoadRect]
  simp

theorem Upto.cons {M V : (Sh n).Idx → Val e} {o o' : ℕ} {L : List (View.Piece Val (Sh n) e)} (h : Upto M V o L)
    (inb : ∀ a, (![o, 0, 0] : Fin 3 → ℕ) a + (Sg n).size a ≤ (Sh n).size a) (w : (Sg n).Idx → Val e) (ho : o + 4 = o')
    (hw : ∀ x, w x = M ((Rect.unit (s := Sh n) ![o, 0, 0] (Sg n).size inb).emb x)) :
    Upto M V o' (⟨Rect.unit (s := Sh n) ![o, 0, 0] (Sg n).size inb, w⟩ :: L) := by
  intro i
  subst ho
  by_cases hm : i ∈ (Rect.unit (s := Sh n) ![o, 0, 0] (Sg n).size inb).set
  · obtain ⟨x, hx⟩ := LoadRect.exists_idx_of_mem _ hm
    have hx : (Rect.unit (s := Sh n) ![o, 0, 0] (Sg n).size inb).emb x = i := hx
    rw [if_pos ((mem_rows o inb i).mp hm).2, ← hx]
    exact (View.canon_cons_emb (Rect.unit (s := Sh n) ![o, 0, 0] (Sg n).size inb) w L x).trans (hw x)
  · refine (View.canon_cons_of_not_mem
      (⟨Rect.unit (s := Sh n) ![o, 0, 0] (Sg n).size inb, w⟩ : View.Piece Val (Sh n) e) L hm).trans ((h i).trans ?_)
    rw [mem_rows] at hm
    by_cases h1 : (i 0).val < o
    · rw [if_pos h1, if_pos (by omega)]
    · rw [if_neg h1, if_neg (by omega)]

theorem Upto.all {M V : (Sh n).Idx → Val e} {L : List (View.Piece Val (Sh n) e)} (h : Upto M V 64 L) : View.canon L = M := by
  funext i
  exact (h i).trans (if_pos (i 0).isLt)

end

end Cert.KernelIdeal.Body
-- ==== Proof.Groups.lean ====
module

public import proofs.«01_k».proof.Proof.Scan

@[expose] public section

set_option maxRecDepth 16384

noncomputable section

namespace Cert.KernelIdeal.Body

open Cert.KernelIdeal Cert.KernelIdeal.Gen Idealize.ShloMosaic Idealize.SL.Sem

variable {F : FTy → Type} [FloatOps F] (a : FVec F S64x256 .f32) (v : Vec F S4x64x256 .f32) (c : Vec F S4x64x1 .f32)

theorem grp0_eq : k0_pay54 (k0_pay49 (k0_pay43 a)) (k0_pay50 (k0_pay42 a v) (k0_pay43 a) k0_pay44 (k0_pay45 a v)) k0_pay51 (k0_pay52 (k0_pay43 a)) c =
    grpOut (extractStridedSlice S4x256 ![0, 0] a Facts₀.slices_S64x256_o0_0_S4x256) v c := rfl

theorem carry0_eq : k0_pay55 (k0_pay49 (k0_pay43 a)) (k0_pay50 (k0_pay42 a v) (k0_pay43 a) k0_pay44 (k0_pay45 a v)) k0_pay51 (k0_pay52 (k0_pay43 a)) c =
    grpCarry (extractStridedSlice S4x256 ![0, 0] a Facts₀.slices_S64x256_o0_0_S4x256) v c := rfl

theorem grp1_eq : k0_pay68 (k0_pay64 (k0_pay59 a)) (k0_pay65 (k0_pay58 a v) (k0_pay59 a) k0_pay60) k0_pay66 c =
    grpOut (extractStridedSlice S4x256 ![4, 0] a Facts₀.slices_S64x256_o4_0_S4x256) v c := rfl

theorem carry1_eq : k0_pay69 (k0_pay64 (k0_pay59 a)) (k0_pay65 (k0_pay58 a v) (k0_pay59 a) k0_pay60) k0_pay66 c =
    grpCarry (extractStridedSlice S4x256 ![4, 0] a Facts₀.slices_S64x256_o4_0_S4x256) v c := rfl

theorem grp2_eq : k0_pay79 (k0_pay76 (k0_pay72 a)) (k0_pay77 (k0_pay71 a v) (k0_pay72 a) (FloatOps.ofBits FTy.f32 0#32)) (FloatOps.ofBits FTy.f32 1065353216#32) c =
    grpOut (extractStridedSlice S4x256 ![8, 0] a Facts₀.slices_S64x256_o8_0_S4x256) v c := rfl

theorem carry2_eq : k0_pay80 (k0_pay76 (k0_pay72 a)) (k0_pay77 (k0_pay71 a v) (k0_pay72 a) (FloatOps.ofBits FTy.f32 0#32)) (FloatOps.ofBits FTy.f32 1065353216#32) c =
    grpCarry (extractStridedSlice S4x256 ![8, 0] a Facts₀.slices_S64x256_o8_0_S4x256) v c := rfl

theorem grp3_eq : (k0_pay88 (k0_pay85 (k0_pay81 a)) (k0_pay86 v (k0_pay81 a)) c) =
    grpOut (extractStridedSlice S4x256 ![12, 0] a Facts₀.slices_S64x256_o12_0_S4x256) v c := rfl

theorem carry3_eq : k0_pay89 (k0_pay87 (k0_pay85 (k0_pay81 a)) (k0_pay86 v (k0_pay81 a)) c) =
    grpCarry (extractStridedSlice S4x256 ![12, 0] a Facts₀.slices_S64x256_o12_0_S4x256) v c := rfl

theorem grp4_eq : k0_pay103 (k0_pay100 (k0_pay93 a v) (k0_pay94 a) (k0_pay95 a v)) (k0_pay101 (k0_pay94 a)) c =
    grpOut (extractStridedSlice S4x256 ![16, 0] a Facts₀.slices_S64x256_o16_0_S4x256) v c := rfl

theorem carry4_eq : k0_pay104 (k0_pay100 (k0_pay93 a v) (k0_pay94 a) (k0_pay95 a v)) (k0_pay101 (k0_pay94 a)) c =
    grpCarry (extractStridedSlice S4x256 ![16, 0] a Facts₀.slices_S64x256_o16_0_S4x256) v c := rfl

theorem grp5_eq : k0_pay118 (k0_pay115 (k0_pay107 a v) (k0_pay108 a) (k0_pay109 a v) (k0_pay110 a)) (k0_pay116 (k0_pay108 a)) (FloatOps.ofBits FTy.f32 0#32) c =
    grpOut (extractStridedSlice S4x256 ![20, 0] a Facts₀.slices_S64x256_o20_0_S4x256) v c := rfl

theorem carry5_eq : k0_pay119 (k0_pay115 (k0_pay107 a v) (k0_pay108 a) (k0_pay109 a v) (k0_pay110 a)) (k0_pay116 (k0_pay108 a)) (FloatOps.ofBits FTy.f32 0#32) c =
    grpCarry (extractStridedSlice S4x256 ![20, 0] a Facts₀.slices_S64x256_o20_0_S4x256) v c := rfl

theorem grp6_eq : k0_pay132 (k0_pay129 (k0_pay121 a v) (k0_pay122 a) (k0_pay123 a v) (k0_pay124 a)) (k0_pay130 (k0_pay122 a)) c =
    grpOut (extractStridedSlice S4x256 ![24, 0] a Facts₀.slices_S64x256_o24_0_S4x256) v c := rfl

theorem carry6_eq : k0_pay133 (k0_pay129 (k0_pay121 a v) (k0_pay122 a) (k0_pay123 a v) (k0_pay124 a)) (k0_pay130 (k0_pay122 a)) c =
    grpCarry (extractStridedSlice S4x256 ![24, 0] a Facts₀.slices_S64x256_o24_0_S4x256) v c := rfl

theorem grp7_eq : k0_pay143 (k0_pay139 (k0_pay134 a)) (k0_pay140 v (k0_pay134 a) (k0_pay135 v)) (k0_pay141 (k0_pay134 a)) c =
    grpOut (extractStridedSlice S4x256 ![28, 0] a Facts₀.slices_S64x256_o28_0_S4x256) v c := rfl

theorem carry7_eq : k0_pay145 (k0_pay144 (k0_pay139 (k0_pay134 a)) (k0_pay140 v (k0_pay134 a) (k0_pay135 v)) (k0_pay141 (k0_pay134 a)) c) =
    grpCarry (extractStridedSlice S4x256 ![28, 0] a Facts₀.slices_S64x256_o28_0_S4x256) v c := rfl

theorem grp8_eq : k0_pay161 (k0_pay157 (k0_pay149 a) (k0_pay150 a v) k0_pay151 (k0_pay152 a)) (k0_pay158 (k0_pay149 a) k0_pay151 (k0_pay152 a)) (k0_pay159 c) =
    grpOut (extractStridedSlice S4x256 ![32, 0] a Facts₀.slices_S64x256_o32_0_S4x256) v c := rfl

theorem carry8_eq : k0_pay162 (k0_pay157 (k0_pay149 a) (k0_pay150 a v) k0_pay151 (k0_pay152 a)) (k0_pay158 (k0_pay149 a) k0_pay151 (k0_pay152 a)) (k0_pay159 c) =
    grpCarry (extractStridedSlice S4x256 ![32, 0] a Facts₀.slices_S64x256_o32_0_S4x256) v c := rfl

theorem grp9_eq : k0_pay177 (k0_pay172 (k0_pay165 a) (k0_pay166 a v) k0_pay167) (k0_pay173 (k0_pay165 a) k0_pay167) (k0_pay174 (k0_pay165 a) (k0_pay166 a v) k0_pay167) (k0_pay175 (k0_pay165 a) k0_pay167) c =
    grpOut (extractStridedSlice S4x256 ![36, 0] a Facts₀.slices_S64x256_o36_0_S4x256) v c := rfl

theorem carry9_eq : k0_pay178 (k0_pay172 (k0_pay165 a) (k0_pay166 a v) k0_pay167) (k0_pay173 (k0_pay165 a) k0_pay167) (k0_pay174 (k0_pay165 a) (k0_pay166 a v) k0_pay167) (k0_pay175 (k0_pay165 a) k0_pay167) c =
    grpCarry (extractStridedSlice S4x256 ![36, 0] a Facts₀.slices_S64x256_o36_0_S4x256) v c := rfl

theorem grp10_eq : k0_pay190 (k0_pay186 (k0_pay180 a) (k0_pay181 a v) (FloatOps.ofBits FTy.f32 1065353216#32)) (k0_pay187 (k0_pay180 a) (FloatOps.ofBits FTy.f32 1065353216#32)) (k0_pay188 (k0_pay180 a) (k0_pay181 a v) (FloatOps.ofBits FTy.f32 1065353216#32)) c =
    grpOut (extractStridedSlice S4x256 ![40, 0] a Facts₀.slices_S64x256_o40_0_S4x256) v c := rfl

theorem carry10_eq : k0_pay191 (k0_pay186 (k0_pay180 a) (k0_pay181 a v) (FloatOps.ofBits FTy.f32 1065353216#32)) (k0_pay187 (k0_pay180 a) (FloatOps.ofBits FTy.f32 1065353216#32)) (k0_pay188 (k0_pay180 a) (k0_pay181 a v) (FloatOps.ofBits FTy.f32 1065353216#32)) c =
    grpCarry (extractStridedSlice S4x256 ![40, 0] a Facts₀.slices_S64x256_o40_0_S4x256) v c := rfl

theorem grp11_eq : k0_pay203 (k0_pay198 (k0_pay192 a) (k0_pay193 a v)) (k0_pay199 (k0_pay192 a)) k0_pay200 (k0_pay201 (k0_pay192 a) (k0_pay193 a v)) c =
    grpOut (extractStridedSlice S4x256 ![44, 0] a Facts₀.slices_S64x256_o44_0_S4x256) v c := rfl

theorem carry11_eq : (k0_pay204 (k0_pay198 (k0_pay192 a) (k0_pay193 a v)) (k0_pay199 (k0_pay192 a)) k0_pay200 (k0_pay201 (k0_pay192 a) (k0_pay193 a v)) c) =
    grpCarry (extractStridedSlice S4x256 ![44, 0] a Facts₀.slices_S64x256_o44_0_S4x256) v c := rfl

theorem grp12_eq : k0_pay213 (k0_pay212 (k0_pay209 a v) (k0_pay210 a) k0_pay211 c) =
    grpOut (extractStridedSlice S4x256 ![48, 0] a Facts₀.slices_S64x256_o48_0_S4x256) v c := rfl

theorem carry12_eq : k0_pay214 (k0_pay212 (k0_pay209 a v) (k0_pay210 a) k0_pay211 c) =
    grpCarry (extractStridedSlice S4x256 ![48, 0] a Facts₀.slices_S64x256_o48_0_S4x256) v c := rfl

theorem grp13_eq : k0_pay226 (k0_pay223 (k0_pay219 a)) (k0_pay224 (k0_pay218 a v) (k0_pay219 a) (FloatOps.ofBits FTy.f32 0#32)) (FloatOps.ofBits FTy.f32 1065353216#32) c =
    grpOut (extractStridedSlice S4x256 ![52, 0] a Facts₀.slices_S64x256_o52_0_S4x256) v c := rfl

theorem carry13_eq : k0_pay227 (k0_pay223 (k0_pay219 a)) (k0_pay224 (k0_pay218 a v) (k0_pay219 a) (FloatOps.ofBits FTy.f32 0#32)) (FloatOps.ofBits FTy.f32 1065353216#32) c =
    grpCarry (extractStridedSlice S4x256 ![52, 0] a Facts₀.slices_S64x256_o52_0_S4x256) v c := rfl

theorem grp14_eq : k0_pay238 (k0_pay235 (k0_pay231 a)) (k0_pay236 (k0_pay230 a v) (k0_pay231 a)) c =
    grpOut (extractStridedSlice S4x256 ![56, 0] a Facts₀.slices_S64x256_o56_0_S4x256) v c := rfl

theorem carry14_eq : k0_pay239 (k0_pay235 (k0_pay231 a)) (k0_pay236 (k0_pay230 a v) (k0_pay231 a)) c =
    grpCarry (extractStridedSlice S4x256 ![56, 0] a Facts₀.slices_S64x256_o56_0_S4x256) v c := rfl

theorem grp15_eq : k0_pay251 (k0_pay247 (k0_pay240 a) (k0_pay241 a v) (k0_pay242 a)) (k0_pay248 (k0_pay240 a) (k0_pay242 a)) (k0_pay249 (k0_pay240 a) (k0_pay241 a v) (k0_pay242 a)) c =
    grpOut (extractStridedSlice S4x256 ![60, 0] a Facts₀.slices_S64x256_o60_0_S4x256) v c := rfl

theorem carry15_eq : k0_pay252 (k0_pay247 (k0_pay240 a) (k0_pay241 a v) (k0_pay242 a)) (k0_pay248 (k0_pay240 a) (k0_pay242 a)) (k0_pay249 (k0_pay240 a) (k0_pay241 a v) (k0_pay242 a)) c =
    grpCarry (extractStridedSlice S4x256 ![60, 0] a Facts₀.slices_S64x256_o60_0_S4x256) v c := rfl

end Cert.KernelIdeal.Body
-- ==== Proof.Vals.lean ====
module

public import proofs.«01_k».proof.Proof.Rows
public import proofs.«01_k».proof.Proof.Groups
public import proofs.«01_k».proof.Proof.Heads

@[expose] public section

set_option maxRecDepth 16384

noncomputable section

namespace Cert.KernelIdeal.Body

open Cert.KernelIdeal Cert.KernelIdeal.Gen Idealize.ShloMosaic Idealize.SL.Sem

/-! ## What four rows leave in the two scratch buffers -/

/-- The memory after every position of a block, from the memory carried in. -/
def Mem (ar : Fin 64 → ℕ → ℝ) (vr : Fin 64 → Fin 64 → ℕ → ℝ) (cr : Fin 64 → Fin 64 → ℝ) : Vec Ideal S64x64x256 .f32 :=
  fun i => ((C (ar (i 0)) (vr (i 0) (i 1)) (cr (i 0) (i 1)) (i 2).val : ℝ) : EReal)

/-- The memory after the block's last position. -/
def Last (ar : Fin 64 → ℕ → ℝ) (vr : Fin 64 → Fin 64 → ℕ → ℝ) (cr : Fin 64 → Fin 64 → ℝ) : Vec Ideal S64x64x1 .f32 :=
  fun i => ((C (ar (i 0)) (vr (i 0) (i 1)) (cr (i 0) (i 1)) 255 : ℝ) : EReal)

section
variable (o : ℕ) (ar : Fin 64 → ℕ → ℝ) (vr : Fin 64 → Fin 64 → ℕ → ℝ) (cr : Fin 64 → Fin 64 → ℝ)
  (a : FVec Ideal S64x256 .f32) (V : Vec Ideal S64x64x256 .f32) (c : Vec Ideal S64x64x1 .f32)
  (ha : ∀ l t, a (ix2 l t) = ((ar l t.val : ℝ) : EReal)) (hV : ∀ l r t, V (ix3 l r t) = ((vr l r t.val : ℝ) : EReal))
  (hc : ∀ l r, c (ix3 l r 0) = ((cr l r : ℝ) : EReal))
  (hs : Shape.Slices (s := S64x256) ![o, 0] S4x256)
  (inb : ∀ a, (![o, 0, 0] : Fin 3 → ℕ) a + (Sg 256).size a ≤ (Sh 256).size a)
  (inb' : ∀ a, (![o, 0, 0] : Fin 3 → ℕ) a + (Sg 1).size a ≤ (Sh 1).size a)
  (v : Vec Ideal S4x64x256 .f32) (hv : v = View.ld (Val := Elt Ideal) (e' := .f32) V (Rect.unit (s := Sh 256) ![o, 0, 0] (Sg 256).size inb))
  (k : Vec Ideal S4x64x1 .f32) (hk : k = View.ld (Val := Elt Ideal) (e' := .f32) c (Rect.unit (s := Sh 1) ![o, 0, 0] (Sg 1).size inb'))

include ha hV hc hv hk inb inb'

theorem grp_val (ho : o + 4 ≤ 64) (l : Fin 4) (r : Fin 64) (t : Fin 256) :
    grp (extractStridedSlice S4x256 ![o, 0] a hs) v k (ix3 l r t) =
      ((C (ar ⟨o + l.val, by omega⟩) (vr ⟨o + l.val, by omega⟩ r) (cr ⟨o + l.val, by omega⟩ r) t.val : ℝ) : EReal) := by
  refine grp_apply _ _ _ (fun l => ar ⟨o + l.val, by omega⟩) (fun l r => vr ⟨o + l.val, by omega⟩ r)
    (fun l r => cr ⟨o + l.val, by omega⟩ r) ?_ ?_ ?_ l r t
  · intro l t
    have : extractStridedSlice S4x256 ![o, 0] a hs (ix2 l t) = a (ix2 ⟨o + l.val, by omega⟩ t) := by
      pointwise
      try rfl
    rw [this, ha]
  · intro l r t
    rw [hv, View.ld_unit_apply_of _ _ _ _ _ (ix3 ⟨o + l.val, by omega⟩ r t), hV]
    intro a
    match a with
    | 0 => rfl
    | 1 => exact (Nat.zero_add _).symm
    | 2 => exact (Nat.zero_add _).symm
  · intro l r
    rw [hk, View.ld_unit_apply_of _ _ _ _ _ (ix3 ⟨o + l.val, by omega⟩ r 0), hc]
    intro a
    match a with
    | 0 => rfl
    | 1 => exact (Nat.zero_add _).symm
    | 2 => rfl

theorem grpOut_val (ho : o + 4 ≤ 64) (x : (Sg 256).Idx) :
    grpOut (extractStridedSlice S4x256 ![o, 0] a hs) v k x =
      Mem ar vr cr ((Rect.unit (s := Sh 256) ![o, 0, 0] (Sg 256).size inb).emb x) := by
  obtain ⟨l, r, t, rfl⟩ : ∃ l r t, x = ix3 l r t := ⟨x 0, x 1, x 2, eq_ix3 x⟩
  have e : grpOut (extractStridedSlice S4x256 ![o, 0] a hs) v k (ix3 l r t) =
      grp (extractStridedSlice S4x256 ![o, 0] a hs) v k (ix3 l r t) := by
    pointwise [grpOut]
  rw [e, grp_val o ar vr cr a V c ha hV hc hs inb inb' v hv k hk ho]
  have e0 : (Rect.unit (s := Sh 256) ![o, 0, 0] (Sg 256).size inb).emb (ix3 l r t) =
      ix3 (⟨o + l.val, by omega⟩ : Fin 64) r t := by
    funext a
    apply Fin.ext
    refine (Rect.idx_unit_val (s := Sh 256) ![o, 0, 0] (Sg 256).size inb (ix3 l r t) a).trans ?_
    match a with
    | 0 => rfl
    | 1 => exact Nat.zero_add _
    | 2 => exact Nat.zero_add _
  rw [e0]
  rfl

theorem grpCarry_val (ho : o + 4 ≤ 64) (x : (Sg 1).Idx) :
    grpCarry (extractStridedSlice S4x256 ![o, 0] a hs) v k x =
      Last ar vr cr ((Rect.unit (s := Sh 1) ![o, 0, 0] (Sg 1).size inb').emb x) := by
  obtain ⟨l, r, t, rfl⟩ : ∃ l r t, x = ix3 l r t := ⟨x 0, x 1, x 2, eq_ix3 x⟩
  have e : grpCarry (extractStridedSlice S4x256 ![o, 0] a hs) v k (ix3 l r t) =
      grp (extractStridedSlice S4x256 ![o, 0] a hs) v k (ix3 l r 255) := by
    obtain rfl : t = 0 := Subsingleton.elim _ _
    pointwise [grpCarry]
    try rfl
  rw [e, grp_val o ar vr cr a V c ha hV hc hs inb inb' v hv k hk ho]
  have e0 : (Rect.unit (s := Sh 1) ![o, 0, 0] (Sg 1).size inb').emb (ix3 l r t) =
      ix3 (⟨o + l.val, by omega⟩ : Fin 64) r t := by
    funext a
    apply Fin.ext
    refine (Rect.idx_unit_val (s := Sh 1) ![o, 0, 0] (Sg 1).size inb' (ix3 l r t) a).trans ?_
    match a with
    | 0 => rfl
    | 1 => exact Nat.zero_add _
    | 2 => exact Nat.zero_add _
  rw [e0]
  rfl

end

end Cert.KernelIdeal.Body
-- ==== Proof.CaseA.lean ====
module

public import proofs.«01_k».proof.Proof.Vals
public import proofs.«01_k».proof.Proof.Gen.KernelIdeal.Frame

@[expose] public section

set_option maxRecDepth 16384
set_option maxHeartbeats 1000000

noncomputable section

namespace Cert.KernelIdeal.Body

open Cert.KernelIdeal Cert.KernelIdeal.Gen Idealize.ShloMosaic Idealize.SL.Sem

/-! ## What a point of case A leaves -/

section
variable (c : Dev nD) (i : grid0.Coords) (arg2 : Memref sig .tc .vmem S1x256x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S512x1024 .f32) (harg5 : arg5.IsWhole) (arg6 : Memref sig .tc .vmem S64x64 .f32) (harg6 : arg6.IsWhole)
  (arg7 : Memref sig .tc .vmem S512x1024 .f32) (harg7 : arg7.IsWhole) (arg8 : Memref sig .tc .vmem S1x256x1024 .f32) (harg8 : arg8.IsWhole)
  (arg9 : Memref sig .tc .vmem S64x64x1 .f32) (harg9 : arg9.IsWhole) (arg10 : Memref sig .tc .vmem S64x64x256 .f32) (harg10 : arg10.IsWhole)
  (hc0 : cond0_0 i) (x0 : Vec Ideal S1x256x1024 .f32) (x1 x2 x3 : Vec Ideal S512x1024 .f32) (x4 : Vec Ideal S64x64 .f32)
  (x5 : Vec Ideal S512x1024 .f32)
  (ar : Fin 64 → ℕ → ℝ) (vr : Fin 64 → Fin 64 → ℕ → ℝ)
theorem r_eqA : (kernelRun0_A.sl.r (F := Ideal) c arg6 harg6 x4) = x4 := by
  unfold kernelRun0_A.sl.r
  simp (disch := decide) only [View.readAt_eq_ld, View.ld_unit_lit', Memref.IsWhole.read_unread]

theorem r_1_eqA : (kernelRun0_A.sl.r_1 (F := Ideal) c arg2 harg2 arg3 harg3 x0 x1) = k0_pay4 x0 x1 := by
  unfold kernelRun0_A.sl.r_1
  simp (disch := decide) only [View.readAt_eq_ld, View.ld_unit_lit', Memref.IsWhole.read_unread]

theorem r_2_eqA : (kernelRun0_A.sl.r_2 (F := Ideal) c arg2 harg2 arg5 harg5 x0 x3) = k0_pay5 x0 x3 := by
  unfold kernelRun0_A.sl.r_2
  simp (disch := decide) only [View.readAt_eq_ld, View.ld_unit_lit', Memref.IsWhole.read_unread]

theorem r_3_eqA : (kernelRun0_A.sl.r_3 (F := Ideal) c arg2 harg2 arg4 harg4 x0 x2) = k0_pay6 x0 x2 := by
  unfold kernelRun0_A.sl.r_3
  simp (disch := decide) only [View.readAt_eq_ld, View.ld_unit_lit', Memref.IsWhole.read_unread]

theorem decay_eqA : (kernelRun0_A.sl.r_24 (F := Ideal) c arg2 harg2 arg3 harg3 arg6 harg6 x0 x1 x4) = decay x4 (k0_pay4 x0 x1) := by
  have e : (kernelRun0_A.sl.r_24 (F := Ideal) c arg2 harg2 arg3 harg3 arg6 harg6 x0 x1 x4) = decay (kernelRun0_A.sl.r (F := Ideal) c arg6 harg6 x4) (kernelRun0_A.sl.r_1 (F := Ideal) c arg2 harg2 arg3 harg3 x0 x1) := rfl
  rw [e, r_eqA, r_1_eqA]

/-- Both scratch buffers after all sixteen groups of rows. -/
theorem bufsA (hA : ∀ l t, decay x4 (k0_pay4 x0 x1) (ix2 l t) = ((ar l t.val : ℝ) : EReal))
    (hV : ∀ l r t, written x4 (k0_pay4 x0 x1) (k0_pay5 x0 x3) (ix3 l r t) = ((vr l r t.val : ℝ) : EReal)) :
    Upto (Mem ar vr (fun _ _ => 0)) (written x4 (k0_pay4 x0 x1) (k0_pay5 x0 x3)) 64 (kernelRun0_A.sl.HS1_17 (F := Ideal) c arg2 harg2 arg3 harg3 arg5 harg5 arg6 harg6 arg9 arg10 x0 x1 x3 x4) ∧
      Upto (Last ar vr (fun _ _ => 0)) (k0_pay2 (F := Ideal)) 64 (kernelRun0_A (F := Ideal) c i arg2 harg2 arg3 harg3 arg4 harg4 arg5 harg5 arg6 harg6 arg7 harg7 arg8 harg8 arg9 harg9 arg10 harg10 hc0 x0 x1 x2 x3 x4 x5).2.1 := by
  have hc : ∀ l r, k0_pay2 (F := Ideal) (ix3 l r 0) = (((fun _ _ => 0 : Fin 64 → Fin 64 → ℝ) l r : ℝ) : EReal) := by
    intro l r
    pointwise [k0_pay2]
    try simp
  have ha : ∀ l t, (kernelRun0_A.sl.r_24 (F := Ideal) c arg2 harg2 arg3 harg3 arg6 harg6 x0 x1 x4) (ix2 l t) = ((ar l t.val : ℝ) : EReal) := by
    rw [decay_eqA]; exact hA
  have h0 : Upto (Mem ar vr (fun _ _ => 0)) (written x4 (k0_pay4 x0 x1) (k0_pay5 x0 x3)) 0 (kernelRun0_A.sl.HS1_1 (F := Ideal) c arg2 harg2 arg3 harg3 arg5 harg5 arg6 harg6 x0 x1 x3 x4) := by
    have e : (kernelRun0_A.sl.HS1_1 (F := Ideal) c arg2 harg2 arg3 harg3 arg5 harg5 arg6 harg6 x0 x1 x3 x4) = [⟨Rect.unit (s := Sh 256) ![0, 0, 0] (Sh 256).size inb_S64x64x256_S64x64x256_0_0_0,
        written (kernelRun0_A.sl.r (F := Ideal) c arg6 harg6 x4) (kernelRun0_A.sl.r_1 (F := Ideal) c arg2 harg2 arg3 harg3 x0 x1) (kernelRun0_A.sl.r_2 (F := Ideal) c arg2 harg2 arg5 harg5 x0 x3)⟩] := rfl
    rw [e, r_eqA, r_1_eqA, r_2_eqA]
    exact Upto.whole _ _ _
  have k0 : Upto (Last ar vr (fun _ _ => 0)) (k0_pay2 (F := Ideal)) 0 (kernelRun0_A.sl.HS0_1 (F := Ideal)) := Upto.whole _ _ _
  have v0 : (kernelRun0_A.sl.v418 (F := Ideal) c arg2 harg2 arg3 harg3 arg5 harg5 arg6 harg6 arg10 x0 x1 x3 x4) = View.ld (Val := Elt Ideal) (e' := .f32) (written x4 (k0_pay4 x0 x1) (k0_pay5 x0 x3)) (Rect.unit (s := Sh 256) ![0, 0, 0] (Sg 256).size inb_S64x64x256_S4x64x256_0_0_0) :=
    h0.read arg10.view inb_S64x64x256_S4x64x256_0_0_0
  have c0 : (kernelRun0_A.sl.v508 (F := Ideal) c arg9) = View.ld (Val := Elt Ideal) (e' := .f32) (k0_pay2 (F := Ideal)) (Rect.unit (s := Sh 1) ![0, 0, 0] (Sg 1).size inb_S64x64x1_S4x64x1_0_0_0) :=
    k0.read arg9.view inb_S64x64x1_S4x64x1_0_0_0
  have h1 : Upto (Mem ar vr (fun _ _ => 0)) (written x4 (k0_pay4 x0 x1) (k0_pay5 x0 x3)) 4 (kernelRun0_A.sl.HS1_2 (F := Ideal) c arg2 harg2 arg3 harg3 arg5 harg5 arg6 harg6 arg9 arg10 x0 x1 x3 x4) :=
    h0.cons inb_S64x64x256_S4x64x256_0_0_0 (k0_pay54 (kernelRun0_A.sl.r_30 (F := Ideal) c arg2 harg2 arg3 harg3 arg6 harg6 x0 x1 x4) (kernelRun0_A.sl.r_31 (F := Ideal) c arg2 harg2 arg3 harg3 arg5 harg5 arg6 harg6 arg10 x0 x1 x3 x4) k0_pay51 (kernelRun0_A.sl.r_32 (F := Ideal) c arg2 harg2 arg3 harg3 arg6 harg6 x0 x1 x4) (kernelRun0_A.sl.v508 (F := Ideal) c arg9)) rfl
      (fun x => (congrFun (grp0_eq (kernelRun0_A.sl.r_24 (F := Ideal) c arg2 harg2 arg3 harg3 arg6 harg6 x0 x1 x4) (kernelRun0_A.sl.v418 (F := Ideal) c arg2 harg2 arg3 harg3 arg5 harg5 arg6 harg6 arg10 x0 x1 x3 x4) (kernelRun0_A.sl.v508 (F := Ideal) c arg9)) x).trans (grpOut_val 0 ar vr (fun _ _ => 0) (kernelRun0_A.sl.r_24 (F := Ideal) c arg2 harg2 arg3 harg3 arg6 harg6 x0 x1 x4) _ (k0_pay2 (F := Ideal)) ha hV hc slices_S64x256_o0_0_S4x256 inb_S64x64x256_S4x64x256_0_0_0 inb_S64x64x1_S4x64x1_0_0_0 _ v0 _ c0 (by decide) x))
  have k1 := k0.cons inb_S64x64x1_S4x64x1_0_0_0 (k0_pay55 (kernelRun0_A.sl.r_30 (F := Ideal) c arg2 harg2 arg3 harg3 arg6 harg6 x0 x1 x4) (kernelRun0_A.sl.r_31 (F := Ideal) c arg2 harg2 arg3 harg3 arg5 harg5 arg6 harg6 arg10 x0 x1 x3 x4) k0_pay51 (kernelRun0_A.sl.r_32 (F := Ideal) c arg2 harg2 arg3 harg3 arg6 harg6 x0 x1 x4) (kernelRun0_A.sl.v508 (F := Ideal) c arg9)) (rfl : _ = 4)
      (fun x => (congrFun (carry0_eq (kernelRun0_A.sl.r_24 (F := Ideal) c arg2 harg2 arg3 harg3 arg6 harg6 x0 x1 x4) (kernelRun0_A.sl.v418 (F := Ideal) c arg2 harg2 arg3 harg3 arg5 harg5 arg6 harg6 arg10 x0 x1 x3 x4) (kernelRun0_A.sl.v508 (F := Ideal) c arg9)) x).trans (grpCarry_val 0 ar vr (fun _ _ => 0) (kernelRun0_A.sl.r_24 (F := Ideal) c arg2 harg2 arg3 harg3 arg6 harg6 x0 x1 x4) _ (k0_pay2 (F := Ideal)) ha hV hc slices_S64x256_o0_0_S4x256 inb_S64x64x256_S4x64x256_0_0_0 inb_S64x64x1_S4x64x1_0_0_0 _ v0 _ c0 (by decide) x))
  replace k1 : Upto (Last ar vr (fun _ _ => 0)) (k0_pay2 (F := Ideal)) 4 (kernelRun0_A.sl.HS0_2 (F := Ideal) c arg2 harg2 arg3 harg3 arg5 harg5 arg6 harg6 arg9 arg10 x0 x1 x3 x4) := k1
  have v1 : (kernelRun0_A.sl.v522 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![4, 0, 0] (Sg 256).size inb_S64x64x256_S4x64x256_4_0_0) :=
    h1.read arg10.view inb_S64x64x256_S4x64x256_4_0_0
  have c1 : (kernelRun0_A.sl.v612 (F := Ideal) c arg2 harg2 arg3 harg3 arg5 harg5 arg6 harg6 arg9 arg10 x0 x1 x3 x4) = View.ld (Val := Elt Ideal) (e' := .f32) (k0_pay2 (F := Ideal)) (Rect.unit (s := Sh 1) ![4, 0, 0] (Sg 1).size inb_S64x64x1_S4x64x1_4_0_0) :=
    k1.read arg9.view inb_S64x64x1_S4x64x1_4_0_0
  have h2 : Upto (Mem ar vr (fun _ _ => 0)) (written x4 (k0_pay4 x0 x1) (k0_pay5 x0 x3)) 8 (kernelRun0_A.sl.HS1_3 (F := Ideal) c arg2 harg2 arg3 harg3 arg5 harg5 arg6 harg6 arg9 arg10 x0 x1 x3 x4) :=
    h1.cons inb_S64x64x256_S4x64x256_4_0_0 (k0_pay68 (kernelRun0_A.sl.r_35 (F := Ideal) c arg2 harg2 arg3 harg3 arg6 harg6 x0 x1 x4) (kernelRun0_A.sl.r_36 (F := Ideal) c arg2 harg2 arg3 harg3 arg5 harg5 arg6 harg6 arg9 arg10 x0 x1 x3 x4) k0_pay66 (kernelRun0_A.sl.v612 (F := Ideal) c arg2 harg2 arg3 harg3 arg5 harg5 arg6 harg6 arg9 arg10 x0 x1 x3 x4)) rfl
      (fun x => (congrFun (grp1_eq (kernelRun0_A.sl.r_24 (F := Ideal) c arg2 harg2 arg3 harg3 arg6 harg6 x0 x1 x4) (kernelRun0_A.sl.v522 (F := Ideal) c arg2 harg2 arg3 harg3 arg5 harg5 arg6 harg6 arg9 arg10 x0 x1 x3 x4) (kernelRun0_A.sl.v612 (F := Ideal) c arg2 harg2 arg3 harg3 arg5 harg5 arg6 harg6 arg9 arg10 x0 x1 x3 x4)) x).trans (grpOut_val 4 ar vr (fun _ _ => 0) (kernelRun0_A.sl.r_24 (F := Ideal) c arg2 harg2 arg3 harg3 arg6 harg6 x0 x1 x4) _ (k0_pay2 (F := Ideal)) ha hV hc slices_S64x256_o4_0_S4x256 inb_S64x64x256_S4x64x256_4_0_0 inb_S64x64x1_S4x64x1_4_0_0 _ v1 _ c1 (by decide) x))
  have k2 := k1.cons inb_S64x64x1_S4x64x1_4_0_0 (k0_pay69 (kernelRun0_A.sl.r_35 (F := Ideal) c arg2 harg2 arg3 harg3 arg6 harg6 x0 x1 x4) (kernelRun0_A.sl.r_36 (F := Ideal) c arg2 harg2 arg3 harg3 arg5 harg5 arg6 harg6 arg9 arg10 x0 x1 x3 x4) k0_pay66 (kernelRun0_A.sl.v612 (F := Ideal) c arg2 harg2 arg3 harg3 arg5 harg5 arg6 harg6 arg9 arg10 x0 x1 x3 x4)) (rfl : _ = 8)
      (fun x => (congrFun (carry1_eq (kernelRun0_A.sl.r_24 (F := Ideal) c arg2 harg2 arg3 harg3 arg6 harg6 x0 x1 x4) (kernelRun0_A.sl.v522 (F := Ideal) c arg2 harg2 arg3 harg3 arg5 harg5 arg6 harg6 arg9 arg10 x0 x1 x3 x4) (kernelRun0_A.sl.v612 (F := Ideal) c arg2 harg2 arg3 harg3 arg5 harg5 arg6 harg6 arg9 arg10 x0 x1 x3 x4)) x).trans (grpCarry_val 4 ar vr (fun _ _ => 0) (kernelRun0_A.sl.r_24 (F := Ideal) c arg2 harg2 arg3 harg3 arg6 harg6 x0 x1 x4) _ (k0_pay2 (F := Ideal)) ha hV hc slices_S64x256_o4_0_S4x256 inb_S64x64x256_S4x64x256_4_0_0 inb_S64x64x1_S4x64x1_4_0_0 _ v1 _ c1 (by decide) x))
  replace k2 : Upto (Last ar vr (fun _ _ => 0)) (k0_pay2 (F := Ideal)) 8 (kernelRun0_A.sl.HS0_3 (F := Ideal) c arg2 harg2 arg3 harg3 arg5 harg5 arg6 harg6 arg9 arg10 x0 x1 x3 x4) := k2
  have v2 : (kernelRun0_A.sl.v626 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![8, 0, 0] (Sg 256).size inb_S64x64x256_S4x64x256_8_0_0) :=
    h2.read arg10.view inb_S64x64x256_S4x64x256_8_0_0
  have c2 : (kernelRun0_A.sl.v716 (F := Ideal) c arg2 harg2 arg3 harg3 arg5 harg5 arg6 harg6 arg9 arg10 x0 x1 x3 x4) = View.ld (Val := Elt Ideal) (e' := .f32) (k0_pay2 (F := Ideal)) (Rect.unit (s := Sh 1) ![8, 0, 0] (Sg 1).size inb_S64x64x1_S4x64x1_8_0_0) :=
    k2.read arg9.view inb_S64x64x1_S4x64x1_8_0_0
  have h3 : Upto (Mem ar vr (fun _ _ => 0)) (written x4 (k0_pay4 x0 x1) (k0_pay5 x0 x3)) 12 (kernelRun0_A.sl.HS1_4 (F := Ideal) c arg2 harg2 arg3 harg3 arg5 harg5 arg6 harg6 arg9 arg10 x0 x1 x3 x4) :=
    h2.cons inb_S64x64x256_S4x64x256_8_0_0 (k0_pay79 (kernelRun0_A.sl.r_39 (F := Ideal) c arg2 harg2 arg3 harg3 arg6 harg6 x0 x1 x4) (kernelRun0_A.sl.r_40 (F := Ideal) c arg2 harg2 arg3 harg3 arg5 harg5 arg6 harg6 arg9 arg10 x0 x1 x3 x4) (kernelRun0_A.sl.cst_131 (F := Ideal)) (kernelRun0_A.sl.v716 (F := Ideal) c arg2 harg2 arg3 harg3 arg5 harg5 arg6 harg6 arg9 arg10 x0 x1 x3 x4)) rfl
      (fun x => (congrFun (grp2_eq (kernelRun0_A.sl.r_24 (F := Ideal) c arg2 harg2 arg3 harg3 arg6 harg6 x0 x1 x4) (kernelRun0_A.sl.v626 (F := Ideal) c arg2 harg2 arg3 harg3 arg5 harg5 arg6 harg6 arg9 arg10 x0 x1 x3 x4) (kernelRun0_A.sl.v716 (F := Ideal) c arg2 harg2 arg3 harg3 arg5 harg5 arg6 harg6 arg9 arg10 x0 x1 x3 x4)) x).trans (grpOut_val 8 ar vr (fun _ _ => 0) (kernelRun0_A.sl.r_24 (F := Ideal) c arg2 harg2 arg3 harg3 arg6 harg6 x0 x1 x4) _ (k0_pay2 (F := Ideal)) ha hV hc slices_S64x256_o8_0_S4x256 inb_S64x64x256_S4x64x256_8_0_0 inb_S64x64x1_S4x64x1_8_0_0 _ v2 _ c2 (by decide) x))
  have k3 := k2.cons inb_S64x64x1_S4x64x1_8_0_0 (k0_pay80 (kernelRun0_A.sl.r_39 (F := Ideal) c arg2 harg2 arg3 harg3 arg6 harg6 x0 x1 x4) (kernelRun0_A.sl.r_40 (F := Ideal) c arg2 harg2 arg3 harg3 arg5 harg5 arg6 harg6 arg9 arg10 x0 x1 x3 x4) (kernelRun0_A.sl.cst_131 (F := Ideal)) (kernelRun0_A.sl.v716 (F := Ideal) c arg2 harg2 arg3 harg3 arg5 harg5 arg6 harg6 arg9 arg10 x0 x1 x3 x4)) (rfl : _ = 12)
      (fun x => (congrFun (carry2_eq (kernelRun0_A.sl.r_24 (F := Ideal) c arg2 harg2 arg3 harg3 arg6 harg6 x0 x1 x4) (kernelRun0_A.sl.v626 (F := Ideal) c arg2 harg2 arg3 harg3 arg5 harg5 arg6 harg6 arg9 arg10 x0 x1 x3 x4) (kernelRun0_A.sl.v716 (F := Ideal) c arg2 harg2 arg3 harg3 arg5 harg5 arg6 harg6 arg9 arg10 x0 x1 x3 x4)) x).trans (grpCarry_val 8 ar vr (fun _ _ => 0) (kernelRun0_A.sl.r_24 (F := Ideal) c arg2 harg2 arg3 harg3 arg6 harg6 x0 x1 x4) _ (k0_pay2 (F := Ideal)) ha hV hc slices_S64x256_o8_0_S4x256 inb_S64x64x256_S4x64x256_8_0_0 inb_S64x64x1_S4x64x1_8_0_0 _ v2 _ c2 (by decide) x))
  replace k3 : Upto (Last ar vr (fun _ _ => 0)) (k0_pay2 (F := Ideal)) 12 (kernelRun0_A.sl.HS0_4 (F := Ideal) c arg2 harg2 arg3 harg3 arg5 harg5 arg6 harg6 arg9 arg10 x0 x1 x3 x4) := k3
  have v3 : (kernelRun0_A.sl.v730 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![12, 0, 0] (Sg 256).size inb_S64x64x256_S4x64x256_12_0_0) :=
    h3.read arg10.view inb_S64x64x256_S4x64x256_12_0_0
  have c3 : (kernelRun0_A.sl.v820 (F := Ideal) c arg2 harg2 arg3 harg3 arg5 harg5 arg6 harg6 arg9 arg10 x0 x1 x3 x4) = View.ld (Val := Elt Ideal) (e' := .f32) (k0_pay2 (F := Ideal)) (Rect.unit (s := Sh 1) ![12, 0, 0] (Sg 1).size inb_S64x64x1_S4x64x1_12_0_0) :=
    k3.read arg9.view inb_S64x64x1_S4x64x1_12_0_0
  have h4 : Upto (Mem ar vr (fun _ _ => 0)) (written x4 (k0_pay4 x0 x1) (k0_pay5 x0 x3)) 16 (kernelRun0_A.sl.HS1_5 (F := Ideal) c arg2 harg2 arg3 harg3 arg5 harg5 arg6 harg6 arg9 arg10 x0 x1 x3 x4) :=
    h3.cons inb_S64x64x256_S4x64x256_12_0_0 ((kernelRun0_A.sl.r_45 (F := Ideal) c arg2 harg2 arg3 harg3 arg5 harg5 arg6 harg6 arg9 arg10 x0 x1 x3 x4)) rfl
      (fun x => (congrFun (grp3_eq (kernelRun0_A.sl.r_24 (F := Ideal) c arg2 harg2 arg3 harg3 arg6 harg6 x0 x1 x4) (kernelRun0_A.sl.v730 (F := Ideal) c arg2 harg2 arg3 harg3 arg5 harg5 arg6 harg6 arg9 arg10 x0 x1 x3 x4) (kernelRun0_A.sl.v820 (F := Ideal) c arg2 harg2 arg3 harg3 arg5 harg5 arg6 harg6 arg9 arg10 x0 x1 x3 x4)) x).trans (grpOut_val 12 ar vr (fun _ _ => 0) (kernelRun0_A.sl.r_24 (F := Ideal) c arg2 harg2 arg3 harg3 arg6 harg6 x0 x1 x4) _ (k0_pay2 (F := Ideal)) ha hV hc slices_S64x256_o12_0_S4x256 inb_S64x64x256_S4x64x256_12_0_0 inb_S64x64x1_S4x64x1_12_0_0 _ v3 _ c3 (by decide) x))
  have k4 := k3.cons inb_S64x64x1_S4x64x1_12_0_0 (k0_pay89 (kernelRun0_A.sl.r_44 (F := Ideal) c arg2 harg2 arg3 harg3 arg5 harg5 arg6 harg6 arg9 arg10 x0 x1 x3 x4)) (rfl : _ = 16)
      (fun x => (congrFun (carry3_eq (kernelRun0_A.sl.r_24 (F := Ideal) c arg2 harg2 arg3 harg3 arg6 harg6 x0 x1 x4) (kernelRun0_A.sl.v730 (F := Ideal) c arg2 harg2 arg3 harg3 arg5 harg5 arg6 harg6 arg9 arg10 x0 x1 x3 x4) (kernelRun0_A.sl.v820 (F := Ideal) c arg2 harg2 arg3 harg3 arg5 harg5 arg6 harg6 arg9 arg10 x0 x1 x3 x4)) x).trans (grpCarry_val 12 ar vr (fun _ _ => 0) (kernelRun0_A.sl.r_24 (F := Ideal) c arg2 harg2 arg3 harg3 arg6 harg6 x0 x1 x4) _ (k0_pay2 (F := Ideal)) ha hV hc slices_S64x256_o12_0_S4x256 inb_S64x64x256_S4x64x256_12_0_0 inb_S64x64x1_S4x64x1_12_0_0 _ v3 _ c3 (by decide) x))
  replace k4 : Upto (Last ar vr (fun _ _ => 0)) (k0_pay2 (F := Ideal)) 16 (kernelRun0_A.sl.HS0_5 (F := Ideal) c arg2 harg2 arg3 harg3 arg5 harg5 arg6 harg6 arg9 arg10 x0 x1 x3 x4) := k4
  have v4 : (kernelRun0_A.sl.v834 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![16, 0, 0] (Sg 256).size inb_S64x64x256_S4x64x256_16_0_0) :=
    h4.read arg10.view inb_S64x64x256_S4x64x256_16_0_0
  have c4 : (kernelRun0_A.sl.v924 (F := Ideal) c arg2 harg2 arg3 harg3 arg5 harg5 arg6 harg6 arg9 arg10 x0 x1 x3 x4) = View.ld (Val := Elt Ideal) (e' := .f32) (k0_pay2 (F := Ideal)) (Rect.unit (s := Sh 1) ![16, 0, 0] (Sg 1).size inb_S64x64x1_S4x64x1_16_0_0) :=
    k4.read arg9.view inb_S64x64x1_S4x64x1_16_0_0
  have h5 : Upto (Mem ar vr (fun _ _ => 0)) (written x4 (k0_pay4 x0 x1) (k0_pay5 x0 x3)) 20 (kernelRun0_A.sl.HS1_6 (F := Ideal) c arg2 harg2 arg3 harg3 arg5 harg5 arg6 harg6 arg9 arg10 x0 x1 x3 x4) :=
    h4.cons inb_S64x64x256_S4x64x256_16_0_0 (k0_pay103 (kernelRun0_A.sl.r_49 (F := Ideal) c arg2 harg2 arg3 harg3 arg5 harg5 arg6 harg6 arg9 arg10 x0 x1 x3 x4) (kernelRun0_A.sl.r_50 (F := Ideal) c arg2 harg2 arg3 harg3 arg6 harg6 x0 x1 x4) (kernelRun0_A.sl.v924 (F := Ideal) c arg2 harg2 arg3 harg3 arg5 harg5 arg6 harg6 arg9 arg10 x0 x1 x3 x4)) rfl
      (fun x => (congrFun (grp4_eq (kernelRun0_A.sl.r_24 (F := Ideal) c arg2 harg2 arg3 harg3 arg6 harg6 x0 x1 x4) (kernelRun0_A.sl.v834 (F := Ideal) c arg2 harg2 arg3 harg3 arg5 harg5 arg6 harg6 arg9 arg10 x0 x1 x3 x4) (kernelRun0_A.sl.v924 (F := Ideal) c arg2 harg2 arg3 harg3 arg5 harg5 arg6 harg6 arg9 arg10 x0 x1 x3 x4)) x).trans (grpOut_val 16 ar vr (fun _ _ => 0) (kernelRun0_A.sl.r_24 (F := Ideal) c arg2 harg2 arg3 harg3 arg6 harg6 x0 x1 x4) _ (k0_pay2 (F := Ideal)) ha hV hc slices_S64x256_o16_0_S4x256 inb_S64x64x256_S4x64x256_16_0_0 inb_S64x64x1_S4x64x1_16_0_0 _ v4 _ c4 (by decide) x))
  have k5 := k4.cons inb_S64x64x1_S4x64x1_16_0_0 (k0_pay104 (kernelRun0_A.sl.r_49 (F := Ideal) c arg2 harg2 arg3 harg3 arg5 harg5 arg6 harg6 arg9 arg10 x0 x1 x3 x4) (kernelRun0_A.sl.r_50 (F := Ideal) c arg2 harg2 arg3 harg3 arg6 harg6 x0 x1 x4) (kernelRun0_A.sl.v924 (F := Ideal) c arg2 harg2 arg3 harg3 arg5 harg5 arg6 harg6 arg9 arg10 x0 x1 x3 x4)) (rfl : _ = 20)
      (fun x => (congrFun (carry4_eq (kernelRun0_A.sl.r_24 (F := Ideal) c arg2 harg2 arg3 harg3 arg6 harg6 x0 x1 x4) (kernelRun0_A.sl.v834 (F := Ideal) c arg2 harg2 arg3 harg3 arg5 harg5 arg6 harg6 arg9 arg10 x0 x1 x3 x4) (kernelRun0_A.sl.v924 (F := Ideal) c arg2 harg2 arg3 harg3 arg5 harg5 arg6 harg6 arg9 arg10 x0 x1 x3 x4)) x).trans (grpCarry_val 16 ar vr (fun _ _ => 0) (kernelRun0_A.sl.r_24 (F := Ideal) c arg2 harg2 arg3 harg3 arg6 harg6 x0 x1 x4) _ (k0_pay2 (F := Ideal)) ha hV hc slices_S64x256_o16_0_S4x256 inb_S64x64x256_S4x64x256_16_0_0 inb_S64x64x1_S4x64x1_16_0_0 _ v4 _ c4 (by decide) x))
  replace k5 : Upto (Last ar vr (fun _ _ => 0)) (k0_pay2 (F := Ideal)) 20 (kernelRun0_A.sl.HS0_6 (F := Ideal) c arg2 harg2 arg3 harg3 arg5 harg5 arg6 harg6 arg9 arg10 x0 x1 x3 x4) := k5
  have v5 : (kernelRun0_A.sl.v938 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![20, 0, 0] (Sg 256).size inb_S64x64x256_S4x64x256_20_0_0) :=
    h5.read arg10.view inb_S64x64x256_S4x64x256_20_0_0
  have c5 : (kernelRun0_A.sl.v1028 (F := Ideal) c arg2 harg2 arg3 harg3 arg5 harg5 arg6 harg6 arg9 arg10 x0 x1 x3 x4) = View.ld (Val := Elt Ideal) (e' := .f32) (k0_pay2 (F := Ideal)) (Rect.unit (s := Sh 1) ![20, 0, 0] (Sg 1).size inb_S64x64x1_S4x64x1_20_0_0) :=
    k5.read arg9.view inb_S64x64x1_S4x64x1_20_0_0
  have h6 : Upto (Mem ar vr (fun _ _ => 0)) (written x4 (k0_pay4 x0 x1) (k0_pay5 x0 x3)) 24 (kernelRun0_A.sl.HS1_7 (F := Ideal) c arg2 harg2 arg3 harg3 arg5 harg5 arg6 harg6 arg9 arg10 x0 x1 x3 x4) :=
    h5.cons inb_S64x64x256_S4x64x256_20_0_0 (k0_pay118 (kernelRun0_A.sl.r_55 (F := Ideal) c arg2 harg2 arg3 harg3 arg5 harg5 arg6 harg6 arg9 arg10 x0 x1 x3 x4) (kernelRun0_A.sl.r_56 (F := Ideal) c arg2 harg2 arg3 harg3 arg6 harg6 x0 x1 x4) (kernelRun0_A.sl.cst_122 (F := Ideal)) (kernelRun0_A.sl.v1028 (F := Ideal) c arg2 harg2 arg3 harg3 arg5 harg5 arg6 harg6 arg9 arg10 x0 x1 x3 x4)) rfl
      (fun x => (congrFun (grp5_eq (kernelRun0_A.sl.r_24 (F := Ideal) c arg2 harg2 arg3 harg3 arg6 harg6 x0 x1 x4) (kernelRun0_A.sl.v938 (F := Ideal) c arg2 harg2 arg3 harg3 arg5 harg5 arg6 harg6 arg9 arg10 x0 x1 x3 x4) (kernelRun0_A.sl.v1028 (F := Ideal) c arg2 harg2 arg3 harg3 arg5 harg5 arg6 harg6 arg9 arg10 x0 x1 x3 x4)) x).trans (grpOut_val 20 ar vr (fun _ _ => 0) (kernelRun0_A.sl.r_24 (F := Ideal) c arg2 harg2 arg3 harg3 arg6 harg6 x0 x1 x4) _ (k0_pay2 (F := Ideal)) ha hV hc slices_S64x256_o20_0_S4x256 inb_S64x64x256_S4x64x256_20_0_0 inb_S64x64x1_S4x64x1_20_0_0 _ v5 _ c5 (by decide) x))
  have k6 := k5.cons inb_S64x64x1_S4x64x1_20_0_0 (k0_pay119 (kernelRun0_A.sl.r_55 (F := Ideal) c arg2 harg2 arg3 harg3 arg5 harg5 arg6 harg6 arg9 arg10 x0 x1 x3 x4) (kernelRun0_A.sl.r_56 (F := Ideal) c arg2 harg2 arg3 harg3 arg6 harg6 x0 x1 x4) (kernelRun0_A.sl.cst_122 (F := Ideal)) (kernelRun0_A.sl.v1028 (F := Ideal) c arg2 harg2 arg3 harg3 arg5 harg5 arg6 harg6 arg9 arg10 x0 x1 x3 x4)) (rfl : _ = 24)
      (fun x => (congrFun (carry5_eq (kernelRun0_A.sl.r_24 (F := Ideal) c arg2 harg2 arg3 harg3 arg6 harg6 x0 x1 x4) (kernelRun0_A.sl.v938 (F := Ideal) c arg2 harg2 arg3 harg3 arg5 harg5 arg6 harg6 arg9 arg10 x0 x1 x3 x4) (kernelRun0_A.sl.v1028 (F := Ideal) c arg2 harg2 arg3 harg3 arg5 harg5 arg6 harg6 arg9 arg10 x0 x1 x3 x4)) x).trans (grpCarry_val 20 ar vr (fun _ _ => 0) (kernelRun0_A.sl.r_24 (F := Ideal) c arg2 harg2 arg3 harg3 arg6 harg6 x0 x1 x4) _ (k0_pay2 (F := Ideal)) ha hV hc slices_S64x256_o20_0_S4x256 inb_S64x64x256_S4x64x256_20_0_0 inb_S64x64x1_S4x64x1_20_0_0 _ v5 _ c5 (by decide) x))
  replace k6 : Upto (Last ar vr (fun _ _ => 0)) (k0_pay2 (F := Ideal)) 24 (kernelRun0_A.sl.HS0_7 (F := Ideal) c arg2 harg2 arg3 harg3 arg5 harg5 arg6 harg6 arg9 arg10 x0 x1 x3 x4) := k6
  have v6 : (kernelRun0_A.sl.v1042 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![24, 0, 0] (Sg 256).size inb_S64x64x256_S4x64x256_24_0_0) :=
    h6.read arg10.view inb_S64x64x256_S4x64x256_24_0_0
  have c6 : (kernelRun0_A.sl.v1132 (F := Ideal) c arg2 harg2 arg3 harg3 arg5 harg5 arg6 harg6 arg9 arg10 x0 x1 x3 x4) = View.ld (Val := Elt Ideal) (e' := .f32) (k0_pay2 (F := Ideal)) (Rect.unit (s := Sh 1) ![24, 0, 0] (Sg 1).size inb_S64x64x1_S4x64x1_24_0_0) :=
    k6.read arg9.view inb_S64x64x1_S4x64x1_24_0_0
  have h7 : Upto (Mem ar vr (fun _ _ => 0)) (written x4 (k0_pay4 x0 x1) (k0_pay5 x0 x3)) 28 (kernelRun0_A.sl.HS1_8 (F := Ideal) c arg2 harg2 arg3 harg3 arg5 harg5 arg6 harg6 arg9 arg10 x0 x1 x3 x4) :=
    h6.cons inb_S64x64x256_S4x64x256_24_0_0 (k0_pay132 (kernelRun0_A.sl.r_61 (F := Ideal) c arg2 harg2 arg3 harg3 arg5 harg5 arg6 harg6 arg9 arg10 x0 x1 x3 x4) (kernelRun0_A.sl.r_62 (F := Ideal) c arg2 harg2 arg3 harg3 arg6 harg6 x0 x1 x4) (kernelRun0_A.sl.v1132 (F := Ideal) c arg2 harg2 arg3 harg3 arg5 harg5 arg6 harg6 arg9 arg10 x0 x1 x3 x4)) rfl
      (fun x => (congrFun (grp6_eq (kernelRun0_A.sl.r_24 (F := Ideal) c arg2 harg2 arg3 harg3 arg6 harg6 x0 x1 x4) (kernelRun0_A.sl.v1042 (F := Ideal) c arg2 harg2 arg3 harg3 arg5 harg5 arg6 harg6 arg9 arg10 x0 x1 x3 x4) (kernelRun0_A.sl.v1132 (F := Ideal) c arg2 harg2 arg3 harg3 arg5 harg5 arg6 harg6 arg9 arg10 x0 x1 x3 x4)) x).trans (grpOut_val 24 ar vr (fun _ _ => 0) (kernelRun0_A.sl.r_24 (F := Ideal) c arg2 harg2 arg3 harg3 arg6 harg6 x0 x1 x4) _ (k0_pay2 (F := Ideal)) ha hV hc slices_S64x256_o24_0_S4x256 inb_S64x64x256_S4x64x256_24_0_0 inb_S64x64x1_S4x64x1_24_0_0 _ v6 _ c6 (by decide) x))
  have k7 := k6.cons inb_S64x64x1_S4x64x1_24_0_0 (k0_pay133 (kernelRun0_A.sl.r_61 (F := Ideal) c arg2 harg2 arg3 harg3 arg5 harg5 arg6 harg6 arg9 arg10 x0 x1 x3 x4) (kernelRun0_A.sl.r_62 (F := Ideal) c arg2 harg2 arg3 harg3 arg6 harg6 x0 x1 x4) (kernelRun0_A.sl.v1132 (F := Ideal) c arg2 harg2 arg3 harg3 arg5 harg5 arg6 harg6 arg9 arg10 x0 x1 x3 x4)) (rfl : _ = 28)
      (fun x => (congrFun (carry6_eq (kernelRun0_A.sl.r_24 (F := Ideal) c arg2 harg2 arg3 harg3 arg6 harg6 x0 x1 x4) (kernelRun0_A.sl.v1042 (F := Ideal) c arg2 harg2 arg3 harg3 arg5 harg5 arg6 harg6 arg9 arg10 x0 x1 x3 x4) (kernelRun0_A.sl.v1132 (F := Ideal) c arg2 harg2 arg3 harg3 arg5 harg5 arg6 harg6 arg9 arg10 x0 x1 x3 x4)) x).trans (grpCarry_val 24 ar vr (fun _ _ => 0) (kernelRun0_A.sl.r_24 (F := Ideal) c arg2 harg2 arg3 harg3 arg6 harg6 x0 x1 x4) _ (k0_pay2 (F := Ideal)) ha hV hc slices_S64x256_o24_0_S4x256 inb_S64x64x256_S4x64x256_24_0_0 inb_S64x64x1_S4x64x1_24_0_0 _ v6 _ c6 (by decide) x))
  replace k7 : Upto (Last ar vr (fun _ _ => 0)) (k0_pay2 (F := Ideal)) 28 (kernelRun0_A.sl.HS0_8 (F := Ideal) c arg2 harg2 arg3 harg3 arg5 harg5 arg6 harg6 arg9 arg10 x0 x1 x3 x4) := k7
  have v7 : (kernelRun0_A.sl.v1146 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![28, 0, 0] (Sg 256).size inb_S64x64x256_S4x64x256_28_0_0) :=
    h7.read arg10.view inb_S64x64x256_S4x64x256_28_0_0
  have c7 : (kernelRun0_A.sl.v1236 (F := Ideal) c arg2 harg2 arg3 harg3 arg5 harg5 arg6 harg6 arg9 arg10 x0 x1 x3 x4) = View.ld (Val := Elt Ideal) (e' := .f32) (k0_pay2 (F := Ideal)) (Rect.unit (s := Sh 1) ![28, 0, 0] (Sg 1).size inb_S64x64x1_S4x64x1_28_0_0) :=
    k7.read arg9.view inb_S64x64x1_S4x64x1_28_0_0
  have h8 : Upto (Mem ar vr (fun _ _ => 0)) (written x4 (k0_pay4 x0 x1) (k0_pay5 x0 x3)) 32 (kernelRun0_A.sl.HS1_9 (F := Ideal) c arg2 harg2 arg3 harg3 arg5 harg5 arg6 harg6 arg9 arg10 x0 x1 x3 x4) :=
    h7.cons inb_S64x64x256_S4x64x256_28_0_0 (k0_pay143 (kernelRun0_A.sl.r_65 (F := Ideal) c arg2 harg2 arg3 harg3 arg6 harg6 x0 x1 x4) (kernelRun0_A.sl.r_66 (F := Ideal) c arg2 harg2 arg3 harg3 arg5 harg5 arg6 harg6 arg9 arg10 x0 x1 x3 x4) (kernelRun0_A.sl.r_67 (F := Ideal) c arg2 harg2 arg3 harg3 arg6 harg6 x0 x1 x4) (kernelRun0_A.sl.v1236 (F := Ideal) c arg2 harg2 arg3 harg3 arg5 harg5 arg6 harg6 arg9 arg10 x0 x1 x3 x4)) rfl
      (fun x => (congrFun (grp7_eq (kernelRun0_A.sl.r_24 (F := Ideal) c arg2 harg2 arg3 harg3 arg6 harg6 x0 x1 x4) (kernelRun0_A.sl.v1146 (F := Ideal) c arg2 harg2 arg3 harg3 arg5 harg5 arg6 harg6 arg9 arg10 x0 x1 x3 x4) (kernelRun0_A.sl.v1236 (F := Ideal) c arg2 harg2 arg3 harg3 arg5 harg5 arg6 harg6 arg9 arg10 x0 x1 x3 x4)) x).trans (grpOut_val 28 ar vr (fun _ _ => 0) (kernelRun0_A.sl.r_24 (F := Ideal) c arg2 harg2 arg3 harg3 arg6 harg6 x0 x1 x4) _ (k0_pay2 (F := Ideal)) ha hV hc slices_S64x256_o28_0_S4x256 inb_S64x64x256_S4x64x256_28_0_0 inb_S64x64x1_S4x64x1_28_0_0 _ v7 _ c7 (by decide) x))
  have k8 := k7.cons inb_S64x64x1_S4x64x1_28_0_0 (k0_pay145 (kernelRun0_A.sl.r_68 (F := Ideal) c arg2 harg2 arg3 harg3 arg5 harg5 arg6 harg6 arg9 arg10 x0 x1 x3 x4)) (rfl : _ = 32)
      (fun x => (congrFun (carry7_eq (kernelRun0_A.sl.r_24 (F := Ideal) c arg2 harg2 arg3 harg3 arg6 harg6 x0 x1 x4) (kernelRun0_A.sl.v1146 (F := Ideal) c arg2 harg2 arg3 harg3 arg5 harg5 arg6 harg6 arg9 arg10 x0 x1 x3 x4) (kernelRun0_A.sl.v1236 (F := Ideal) c arg2 harg2 arg3 harg3 arg5 harg5 arg6 harg6 arg9 arg10 x0 x1 x3 x4)) x).trans (grpCarry_val 28 ar vr (fun _ _ => 0) (kernelRun0_A.sl.r_24 (F := Ideal) c arg2 harg2 arg3 harg3 arg6 harg6 x0 x1 x4) _ (k0_pay2 (F := Ideal)) ha hV hc slices_S64x256_o28_0_S4x256 inb_S64x64x256_S4x64x256_28_0_0 inb_S64x64x1_S4x64x1_28_0_0 _ v7 _ c7 (by decide) x))
  replace k8 : Upto (Last ar vr (fun _ _ => 0)) (k0_pay2 (F := Ideal)) 32 (kernelRun0_A.sl.HS0_9 (F := Ideal) c arg2 harg2 arg3 harg3 arg5 harg5 arg6 harg6 arg9 arg10 x0 x1 x3 x4) := k8
  have v8 : (kernelRun0_A.sl.v1250 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![32, 0, 0] (Sg 256).size inb_S64x64x256_S4x64x256_32_0_0) :=
    h8.read arg10.view inb_S64x64x256_S4x64x256_32_0_0
  have c8 : (kernelRun0_A.sl.v1340 (F := Ideal) c arg2 harg2 arg3 harg3 arg5 harg5 arg6 harg6 arg9 arg10 x0 x1 x3 x4) = View.ld (Val := Elt Ideal) (e' := .f32) (k0_pay2 (F := Ideal)) (Rect.unit (s := Sh 1) ![32, 0, 0] (Sg 1).size inb_S64x64x1_S4x64x1_32_0_0) :=
    k8.read arg9.view inb_S64x64x1_S4x64x1_32_0_0
  have h9 : Upto (Mem ar vr (fun _ _ => 0)) (written x4 (k0_pay4 x0 x1) (k0_pay5 x0 x3)) 36 (kernelRun0_A.sl.HS1_10 (F := Ideal) c arg2 harg2 arg3 harg3 arg5 harg5 arg6 harg6 arg9 arg10 x0 x1 x3 x4) :=
    h8.cons inb_S64x64x256_S4x64x256_32_0_0 (k0_pay161 (kernelRun0_A.sl.r_72 (F := Ideal) c arg2 harg2 arg3 harg3 arg5 harg5 arg6 harg6 arg9 arg10 x0 x1 x3 x4) (kernelRun0_A.sl.r_73 (F := Ideal) c arg2 harg2 arg3 harg3 arg6 harg6 x0 x1 x4) (kernelRun0_A.sl.r_74 (F := Ideal) c arg2 harg2 arg3 harg3 arg5 harg5 arg6 harg6 arg9 arg10 x0 x1 x3 x4)) rfl
      (fun x => (congrFun (grp8_eq (kernelRun0_A.sl.r_24 (F := Ideal) c arg2 harg2 arg3 harg3 arg6 harg6 x0 x1 x4) (kernelRun0_A.sl.v1250 (F := Ideal) c arg2 harg2 arg3 harg3 arg5 harg5 arg6 harg6 arg9 arg10 x0 x1 x3 x4) (kernelRun0_A.sl.v1340 (F := Ideal) c arg2 harg2 arg3 harg3 arg5 harg5 arg6 harg6 arg9 arg10 x0 x1 x3 x4)) x).trans (grpOut_val 32 ar vr (fun _ _ => 0) (kernelRun0_A.sl.r_24 (F := Ideal) c arg2 harg2 arg3 harg3 arg6 harg6 x0 x1 x4) _ (k0_pay2 (F := Ideal)) ha hV hc slices_S64x256_o32_0_S4x256 inb_S64x64x256_S4x64x256_32_0_0 inb_S64x64x1_S4x64x1_32_0_0 _ v8 _ c8 (by decide) x))
  have k9 := k8.cons inb_S64x64x1_S4x64x1_32_0_0 (k0_pay162 (kernelRun0_A.sl.r_72 (F := Ideal) c arg2 harg2 arg3 harg3 arg5 harg5 arg6 harg6 arg9 arg10 x0 x1 x3 x4) (kernelRun0_A.sl.r_73 (F := Ideal) c arg2 harg2 arg3 harg3 arg6 harg6 x0 x1 x4) (kernelRun0_A.sl.r_74 (F := Ideal) c arg2 harg2 arg3 harg3 arg5 harg5 arg6 harg6 arg9 arg10 x0 x1 x3 x4)) (rfl : _ = 36)
      (fun x => (congrFun (carry8_eq (kernelRun0_A.sl.r_24 (F := Ideal) c arg2 harg2 arg3 harg3 arg6 harg6 x0 x1 x4) (kernelRun0_A.sl.v1250 (F := Ideal) c arg2 harg2 arg3 harg3 arg5 harg5 arg6 harg6 arg9 arg10 x0 x1 x3 x4) (kernelRun0_A.sl.v1340 (F := Ideal) c arg2 harg2 arg3 harg3 arg5 harg5 arg6 harg6 arg9 arg10 x0 x1 x3 x4)) x).trans (grpCarry_val 32 ar vr (fun _ _ => 0) (kernelRun0_A.sl.r_24 (F := Ideal) c arg2 harg2 arg3 harg3 arg6 harg6 x0 x1 x4) _ (k0_pay2 (F := Ideal)) ha hV hc slices_S64x256_o32_0_S4x256 inb_S64x64x256_S4x64x256_32_0_0 inb_S64x64x1_S4x64x1_32_0_0 _ v8 _ c8 (by decide) x))
  replace k9 : Upto (Last ar vr (fun _ _ => 0)) (k0_pay2 (F := Ideal)) 36 (kernelRun0_A.sl.HS0_10 (F := Ideal) c arg2 harg2 arg3 harg3 arg5 harg5 arg6 harg6 arg9 arg10 x0 x1 x3 x4) := k9
  have v9 : (kernelRun0_A.sl.v1354 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![36, 0, 0] (Sg 256).size inb_S64x64x256_S4x64x256_36_0_0) :=
    h9.read arg10.view inb_S64x64x256_S4x64x256_36_0_0
  have c9 : (kernelRun0_A.sl.v1444 (F := Ideal) c arg2 harg2 arg3 harg3 arg5 harg5 arg6 harg6 arg9 arg10 x0 x1 x3 x4) = View.ld (Val := Elt Ideal) (e' := .f32) (k0_pay2 (F := Ideal)) (Rect.unit (s := Sh 1) ![36, 0, 0] (Sg 1).size inb_S64x64x1_S4x64x1_36_0_0) :=
    k9.read arg9.view inb_S64x64x1_S4x64x1_36_0_0
  have h10 : Upto (Mem ar vr (fun _ _ => 0)) (written x4 (k0_pay4 x0 x1) (k0_pay5 x0 x3)) 40 (kernelRun0_A.sl.HS1_11 (F := Ideal) c arg2 harg2 arg3 harg3 arg5 harg5 arg6 harg6 arg9 arg10 x0 x1 x3 x4) :=
    h9.cons inb_S64x64x256_S4x64x256_36_0_0 (k0_pay177 (kernelRun0_A.sl.r_77 (F := Ideal) c arg2 harg2 arg3 harg3 arg5 harg5 arg6 harg6 arg9 arg10 x0 x1 x3 x4) (kernelRun0_A.sl.r_78 (F := Ideal) c arg2 harg2 arg3 harg3 arg6 harg6 x0 x1 x4) (kernelRun0_A.sl.r_79 (F := Ideal) c arg2 harg2 arg3 harg3 arg5 harg5 arg6 harg6 arg9 arg10 x0 x1 x3 x4) (kernelRun0_A.sl.r_80 (F := Ideal) c arg2 harg2 arg3 harg3 arg6 harg6 x0 x1 x4) (kernelRun0_A.sl.v1444 (F := Ideal) c arg2 harg2 arg3 harg3 arg5 harg5 arg6 harg6 arg9 arg10 x0 x1 x3 x4)) rfl
      (fun x => (congrFun (grp9_eq (kernelRun0_A.sl.r_24 (F := Ideal) c arg2 harg2 arg3 harg3 arg6 harg6 x0 x1 x4) (kernelRun0_A.sl.v1354 (F := Ideal) c arg2 harg2 arg3 harg3 arg5 harg5 arg6 harg6 arg9 arg10 x0 x1 x3 x4) (kernelRun0_A.sl.v1444 (F := Ideal) c arg2 harg2 arg3 harg3 arg5 harg5 arg6 harg6 arg9 arg10 x0 x1 x3 x4)) x).trans (grpOut_val 36 ar vr (fun _ _ => 0) (kernelRun0_A.sl.r_24 (F := Ideal) c arg2 harg2 arg3 harg3 arg6 harg6 x0 x1 x4) _ (k0_pay2 (F := Ideal)) ha hV hc slices_S64x256_o36_0_S4x256 inb_S64x64x256_S4x64x256_36_0_0 inb_S64x64x1_S4x64x1_36_0_0 _ v9 _ c9 (by decide) x))
  have k10 := k9.cons inb_S64x64x1_S4x64x1_36_0_0 (k0_pay178 (kernelRun0_A.sl.r_77 (F := Ideal) c arg2 harg2 arg3 harg3 arg5 harg5 arg6 harg6 arg9 arg10 x0 x1 x3 x4) (kernelRun0_A.sl.r_78 (F := Ideal) c arg2 harg2 arg3 harg3 arg6 harg6 x0 x1 x4) (kernelRun0_A.sl.r_79 (F := Ideal) c arg2 harg2 arg3 harg3 arg5 harg5 arg6 harg6 arg9 arg10 x0 x1 x3 x4) (kernelRun0_A.sl.r_80 (F := Ideal) c arg2 harg2 arg3 harg3 arg6 harg6 x0 x1 x4) (kernelRun0_A.sl.v1444 (F := Ideal) c arg2 harg2 arg3 harg3 arg5 harg5 arg6 harg6 arg9 arg10 x0 x1 x3 x4)) (rfl : _ = 40)
      (fun x => (congrFun (carry9_eq (kernelRun0_A.sl.r_24 (F := Ideal) c arg2 harg2 arg3 harg3 arg6 harg6 x0 x1 x4) (kernelRun0_A.sl.v1354 (F := Ideal) c arg2 harg2 arg3 harg3 arg5 harg5 arg6 harg6 arg9 arg10 x0 x1 x3 x4) (kernelRun0_A.sl.v1444 (F := Ideal) c arg2 harg2 arg3 harg3 arg5 harg5 arg6 harg6 arg9 arg10 x0 x1 x3 x4)) x).trans (grpCarry_val 36 ar vr (fun _ _ => 0) (kernelRun0_A.sl.r_24 (F := Ideal) c arg2 harg2 arg3 harg3 arg6 harg6 x0 x1 x4) _ (k0_pay2 (F := Ideal)) ha hV hc slices_S64x256_o36_0_S4x256 inb_S64x64x256_S4x64x256_36_0_0 inb_S64x64x1_S4x64x1_36_0_0 _ v9 _ c9 (by decide) x))
  replace k10 : Upto (Last ar vr (fun _ _ => 0)) (k0_pay2 (F := Ideal)) 40 (kernelRun0_A.sl.HS0_11 (F := Ideal) c arg2 harg2 arg3 harg3 arg5 harg5 arg6 harg6 arg9 arg10 x0 x1 x3 x4) := k10
  have v10 : (kernelRun0_A.sl.v1458 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![40, 0, 0] (Sg 256).size inb_S64x64x256_S4x64x256_40_0_0) :=
    h10.read arg10.view inb_S64x64x256_S4x64x256_40_0_0
  have c10 : (kernelRun0_A.sl.v1548 (F := Ideal) c arg2 harg2 arg3 harg3 arg5 harg5 arg6 harg6 arg9 arg10 x0 x1 x3 x4) = View.ld (Val := Elt Ideal) (e' := .f32) (k0_pay2 (F := Ideal)) (Rect.unit (s := Sh 1) ![40, 0, 0] (Sg 1).size inb_S64x64x1_S4x64x1_40_0_0) :=
    k10.read arg9.view inb_S64x64x1_S4x64x1_40_0_0
  have h11 : Upto (Mem ar vr (fun _ _ => 0)) (written x4 (k0_pay4 x0 x1) (k0_pay5 x0 x3)) 44 (kernelRun0_A.sl.HS1_12 (F := Ideal) c arg2 harg2 arg3 harg3 arg5 harg5 arg6 harg6 arg9 arg10 x0 x1 x3 x4) :=
    h10.cons inb_S64x64x256_S4x64x256_40_0_0 (k0_pay190 (kernelRun0_A.sl.r_83 (F := Ideal) c arg2 harg2 arg3 harg3 arg5 harg5 arg6 harg6 arg9 arg10 x0 x1 x3 x4) (kernelRun0_A.sl.r_84 (F := Ideal) c arg2 harg2 arg3 harg3 arg6 harg6 x0 x1 x4) (kernelRun0_A.sl.r_85 (F := Ideal) c arg2 harg2 arg3 harg3 arg5 harg5 arg6 harg6 arg9 arg10 x0 x1 x3 x4) (kernelRun0_A.sl.v1548 (F := Ideal) c arg2 harg2 arg3 harg3 arg5 harg5 arg6 harg6 arg9 arg10 x0 x1 x3 x4)) rfl
      (fun x => (congrFun (grp10_eq (kernelRun0_A.sl.r_24 (F := Ideal) c arg2 harg2 arg3 harg3 arg6 harg6 x0 x1 x4) (kernelRun0_A.sl.v1458 (F := Ideal) c arg2 harg2 arg3 harg3 arg5 harg5 arg6 harg6 arg9 arg10 x0 x1 x3 x4) (kernelRun0_A.sl.v1548 (F := Ideal) c arg2 harg2 arg3 harg3 arg5 harg5 arg6 harg6 arg9 arg10 x0 x1 x3 x4)) x).trans (grpOut_val 40 ar vr (fun _ _ => 0) (kernelRun0_A.sl.r_24 (F := Ideal) c arg2 harg2 arg3 harg3 arg6 harg6 x0 x1 x4) _ (k0_pay2 (F := Ideal)) ha hV hc slices_S64x256_o40_0_S4x256 inb_S64x64x256_S4x64x256_40_0_0 inb_S64x64x1_S4x64x1_40_0_0 _ v10 _ c10 (by decide) x))
  have k11 := k10.cons inb_S64x64x1_S4x64x1_40_0_0 (k0_pay191 (kernelRun0_A.sl.r_83 (F := Ideal) c arg2 harg2 arg3 harg3 arg5 harg5 arg6 harg6 arg9 arg10 x0 x1 x3 x4) (kernelRun0_A.sl.r_84 (F := Ideal) c arg2 harg2 arg3 harg3 arg6 harg6 x0 x1 x4) (kernelRun0_A.sl.r_85 (F := Ideal) c arg2 harg2 arg3 harg3 arg5 harg5 arg6 harg6 arg9 arg10 x0 x1 x3 x4) (kernelRun0_A.sl.v1548 (F := Ideal) c arg2 harg2 arg3 harg3 arg5 harg5 arg6 harg6 arg9 arg10 x0 x1 x3 x4)) (rfl : _ = 44)
      (fun x => (congrFun (carry10_eq (kernelRun0_A.sl.r_24 (F := Ideal) c arg2 harg2 arg3 harg3 arg6 harg6 x0 x1 x4) (kernelRun0_A.sl.v1458 (F := Ideal) c arg2 harg2 arg3 harg3 arg5 harg5 arg6 harg6 arg9 arg10 x0 x1 x3 x4) (kernelRun0_A.sl.v1548 (F := Ideal) c arg2 harg2 arg3 harg3 arg5 harg5 arg6 harg6 arg9 arg10 x0 x1 x3 x4)) x).trans (grpCarry_val 40 ar vr (fun _ _ => 0) (kernelRun0_A.sl.r_24 (F := Ideal) c arg2 harg2 arg3 harg3 arg6 harg6 x0 x1 x4) _ (k0_pay2 (F := Ideal)) ha hV hc slices_S64x256_o40_0_S4x256 inb_S64x64x256_S4x64x256_40_0_0 inb_S64x64x1_S4x64x1_40_0_0 _ v10 _ c10 (by decide) x))
  replace k11 : Upto (Last ar vr (fun _ _ => 0)) (k0_pay2 (F := Ideal)) 44 (kernelRun0_A.sl.HS0_12 (F := Ideal) c arg2 harg2 arg3 harg3 arg5 harg5 arg6 harg6 arg9 arg10 x0 x1 x3 x4) := k11
  have v11 : (kernelRun0_A.sl.v1562 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![44, 0, 0] (Sg 256).size inb_S64x64x256_S4x64x256_44_0_0) :=
    h11.read arg10.view inb_S64x64x256_S4x64x256_44_0_0
  have c11 : (kernelRun0_A.sl.v1652 (F := Ideal) c arg2 harg2 arg3 harg3 arg5 harg5 arg6 harg6 arg9 arg10 x0 x1 x3 x4) = View.ld (Val := Elt Ideal) (e' := .f32) (k0_pay2 (F := Ideal)) (Rect.unit (s := Sh 1) ![44, 0, 0] (Sg 1).size inb_S64x64x1_S4x64x1_44_0_0) :=
    k11.read arg9.view inb_S64x64x1_S4x64x1_44_0_0
  have h12 : Upto (Mem ar vr (fun _ _ => 0)) (written x4 (k0_pay4 x0 x1) (k0_pay5 x0 x3)) 48 (kernelRun0_A.sl.HS1_13 (F := Ideal) c arg2 harg2 arg3 harg3 arg5 harg5 arg6 harg6 arg9 arg10 x0 x1 x3 x4) :=
    h11.cons inb_S64x64x256_S4x64x256_44_0_0 (k0_pay203 (kernelRun0_A.sl.r_88 (F := Ideal) c arg2 harg2 arg3 harg3 arg5 harg5 arg6 harg6 arg9 arg10 x0 x1 x3 x4) (kernelRun0_A.sl.r_89 (F := Ideal) c arg2 harg2 arg3 harg3 arg6 harg6 x0 x1 x4) k0_pay200 (kernelRun0_A.sl.r_90 (F := Ideal) c arg2 harg2 arg3 harg3 arg5 harg5 arg6 harg6 arg9 arg10 x0 x1 x3 x4) (kernelRun0_A.sl.v1652 (F := Ideal) c arg2 harg2 arg3 harg3 arg5 harg5 arg6 harg6 arg9 arg10 x0 x1 x3 x4)) rfl
      (fun x => (congrFun (grp11_eq (kernelRun0_A.sl.r_24 (F := Ideal) c arg2 harg2 arg3 harg3 arg6 harg6 x0 x1 x4) (kernelRun0_A.sl.v1562 (F := Ideal) c arg2 harg2 arg3 harg3 arg5 harg5 arg6 harg6 arg9 arg10 x0 x1 x3 x4) (kernelRun0_A.sl.v1652 (F := Ideal) c arg2 harg2 arg3 harg3 arg5 harg5 arg6 harg6 arg9 arg10 x0 x1 x3 x4)) x).trans (grpOut_val 44 ar vr (fun _ _ => 0) (kernelRun0_A.sl.r_24 (F := Ideal) c arg2 harg2 arg3 harg3 arg6 harg6 x0 x1 x4) _ (k0_pay2 (F := Ideal)) ha hV hc slices_S64x256_o44_0_S4x256 inb_S64x64x256_S4x64x256_44_0_0 inb_S64x64x1_S4x64x1_44_0_0 _ v11 _ c11 (by decide) x))
  have k12 := k11.cons inb_S64x64x1_S4x64x1_44_0_0 ((kernelRun0_A.sl.r_91 (F := Ideal) c arg2 harg2 arg3 harg3 arg5 harg5 arg6 harg6 arg9 arg10 x0 x1 x3 x4)) (rfl : _ = 48)
      (fun x => (congrFun (carry11_eq (kernelRun0_A.sl.r_24 (F := Ideal) c arg2 harg2 arg3 harg3 arg6 harg6 x0 x1 x4) (kernelRun0_A.sl.v1562 (F := Ideal) c arg2 harg2 arg3 harg3 arg5 harg5 arg6 harg6 arg9 arg10 x0 x1 x3 x4) (kernelRun0_A.sl.v1652 (F := Ideal) c arg2 harg2 arg3 harg3 arg5 harg5 arg6 harg6 arg9 arg10 x0 x1 x3 x4)) x).trans (grpCarry_val 44 ar vr (fun _ _ => 0) (kernelRun0_A.sl.r_24 (F := Ideal) c arg2 harg2 arg3 harg3 arg6 harg6 x0 x1 x4) _ (k0_pay2 (F := Ideal)) ha hV hc slices_S64x256_o44_0_S4x256 inb_S64x64x256_S4x64x256_44_0_0 inb_S64x64x1_S4x64x1_44_0_0 _ v11 _ c11 (by decide) x))
  replace k12 : Upto (Last ar vr (fun _ _ => 0)) (k0_pay2 (F := Ideal)) 48 (kernelRun0_A.sl.HS0_13 (F := Ideal) c arg2 harg2 arg3 harg3 arg5 harg5 arg6 harg6 arg9 arg10 x0 x1 x3 x4) := k12
  have v12 : (kernelRun0_A.sl.v1666 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![48, 0, 0] (Sg 256).size inb_S64x64x256_S4x64x256_48_0_0) :=
    h12.read arg10.view inb_S64x64x256_S4x64x256_48_0_0
  have c12 : (kernelRun0_A.sl.v1756 (F := Ideal) c arg2 harg2 arg3 harg3 arg5 harg5 arg6 harg6 arg9 arg10 x0 x1 x3 x4) = View.ld (Val := Elt Ideal) (e' := .f32) (k0_pay2 (F := Ideal)) (Rect.unit (s := Sh 1) ![48, 0, 0] (Sg 1).size inb_S64x64x1_S4x64x1_48_0_0) :=
    k12.read arg9.view inb_S64x64x1_S4x64x1_48_0_0
  have h13 : Upto (Mem ar vr (fun _ _ => 0)) (written x4 (k0_pay4 x0 x1) (k0_pay5 x0 x3)) 52 (kernelRun0_A.sl.HS1_14 (F := Ideal) c arg2 harg2 arg3 harg3 arg5 harg5 arg6 harg6 arg9 arg10 x0 x1 x3 x4) :=
    h12.cons inb_S64x64x256_S4x64x256_48_0_0 (k0_pay213 (kernelRun0_A.sl.r_94 (F := Ideal) c arg2 harg2 arg3 harg3 arg5 harg5 arg6 harg6 arg9 arg10 x0 x1 x3 x4)) rfl
      (fun x => (congrFun (grp12_eq (kernelRun0_A.sl.r_24 (F := Ideal) c arg2 harg2 arg3 harg3 arg6 harg6 x0 x1 x4) (kernelRun0_A.sl.v1666 (F := Ideal) c arg2 harg2 arg3 harg3 arg5 harg5 arg6 harg6 arg9 arg10 x0 x1 x3 x4) (kernelRun0_A.sl.v1756 (F := Ideal) c arg2 harg2 arg3 harg3 arg5 harg5 arg6 harg6 arg9 arg10 x0 x1 x3 x4)) x).trans (grpOut_val 48 ar vr (fun _ _ => 0) (kernelRun0_A.sl.r_24 (F := Ideal) c arg2 harg2 arg3 harg3 arg6 harg6 x0 x1 x4) _ (k0_pay2 (F := Ideal)) ha hV hc slices_S64x256_o48_0_S4x256 inb_S64x64x256_S4x64x256_48_0_0 inb_S64x64x1_S4x64x1_48_0_0 _ v12 _ c12 (by decide) x))
  have k13 := k12.cons inb_S64x64x1_S4x64x1_48_0_0 (k0_pay214 (kernelRun0_A.sl.r_94 (F := Ideal) c arg2 harg2 arg3 harg3 arg5 harg5 arg6 harg6 arg9 arg10 x0 x1 x3 x4)) (rfl : _ = 52)
      (fun x => (congrFun (carry12_eq (kernelRun0_A.sl.r_24 (F := Ideal) c arg2 harg2 arg3 harg3 arg6 harg6 x0 x1 x4) (kernelRun0_A.sl.v1666 (F := Ideal) c arg2 harg2 arg3 harg3 arg5 harg5 arg6 harg6 arg9 arg10 x0 x1 x3 x4) (kernelRun0_A.sl.v1756 (F := Ideal) c arg2 harg2 arg3 harg3 arg5 harg5 arg6 harg6 arg9 arg10 x0 x1 x3 x4)) x).trans (grpCarry_val 48 ar vr (fun _ _ => 0) (kernelRun0_A.sl.r_24 (F := Ideal) c arg2 harg2 arg3 harg3 arg6 harg6 x0 x1 x4) _ (k0_pay2 (F := Ideal)) ha hV hc slices_S64x256_o48_0_S4x256 inb_S64x64x256_S4x64x256_48_0_0 inb_S64x64x1_S4x64x1_48_0_0 _ v12 _ c12 (by decide) x))
  replace k13 : Upto (Last ar vr (fun _ _ => 0)) (k0_pay2 (F := Ideal)) 52 (kernelRun0_A.sl.HS0_14 (F := Ideal) c arg2 harg2 arg3 harg3 arg5 harg5 arg6 harg6 arg9 arg10 x0 x1 x3 x4) := k13
  have v13 : (kernelRun0_A.sl.v1770 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![52, 0, 0] (Sg 256).size inb_S64x64x256_S4x64x256_52_0_0) :=
    h13.read arg10.view inb_S64x64x256_S4x64x256_52_0_0
  have c13 : (kernelRun0_A.sl.v1860 (F := Ideal) c arg2 harg2 arg3 harg3 arg5 harg5 arg6 harg6 arg9 arg10 x0 x1 x3 x4) = View.ld (Val := Elt Ideal) (e' := .f32) (k0_pay2 (F := Ideal)) (Rect.unit (s := Sh 1) ![52, 0, 0] (Sg 1).size inb_S64x64x1_S4x64x1_52_0_0) :=
    k13.read arg9.view inb_S64x64x1_S4x64x1_52_0_0
  have h14 : Upto (Mem ar vr (fun _ _ => 0)) (written x4 (k0_pay4 x0 x1) (k0_pay5 x0 x3)) 56 (kernelRun0_A.sl.HS1_15 (F := Ideal) c arg2 harg2 arg3 harg3 arg5 harg5 arg6 harg6 arg9 arg10 x0 x1 x3 x4) :=
    h13.cons inb_S64x64x256_S4x64x256_52_0_0 (k0_pay226 (kernelRun0_A.sl.r_97 (F := Ideal) c arg2 harg2 arg3 harg3 arg6 harg6 x0 x1 x4) (kernelRun0_A.sl.r_98 (F := Ideal) c arg2 harg2 arg3 harg3 arg5 harg5 arg6 harg6 arg9 arg10 x0 x1 x3 x4) (kernelRun0_A.sl.cst_131 (F := Ideal)) (kernelRun0_A.sl.v1860 (F := Ideal) c arg2 harg2 arg3 harg3 arg5 harg5 arg6 harg6 arg9 arg10 x0 x1 x3 x4)) rfl
      (fun x => (congrFun (grp13_eq (kernelRun0_A.sl.r_24 (F := Ideal) c arg2 harg2 arg3 harg3 arg6 harg6 x0 x1 x4) (kernelRun0_A.sl.v1770 (F := Ideal) c arg2 harg2 arg3 harg3 arg5 harg5 arg6 harg6 arg9 arg10 x0 x1 x3 x4) (kernelRun0_A.sl.v1860 (F := Ideal) c arg2 harg2 arg3 harg3 arg5 harg5 arg6 harg6 arg9 arg10 x0 x1 x3 x4)) x).trans (grpOut_val 52 ar vr (fun _ _ => 0) (kernelRun0_A.sl.r_24 (F := Ideal) c arg2 harg2 arg3 harg3 arg6 harg6 x0 x1 x4) _ (k0_pay2 (F := Ideal)) ha hV hc slices_S64x256_o52_0_S4x256 inb_S64x64x256_S4x64x256_52_0_0 inb_S64x64x1_S4x64x1_52_0_0 _ v13 _ c13 (by decide) x))
  have k14 := k13.cons inb_S64x64x1_S4x64x1_52_0_0 (k0_pay227 (kernelRun0_A.sl.r_97 (F := Ideal) c arg2 harg2 arg3 harg3 arg6 harg6 x0 x1 x4) (kernelRun0_A.sl.r_98 (F := Ideal) c arg2 harg2 arg3 harg3 arg5 harg5 arg6 harg6 arg9 arg10 x0 x1 x3 x4) (kernelRun0_A.sl.cst_131 (F := Ideal)) (kernelRun0_A.sl.v1860 (F := Ideal) c arg2 harg2 arg3 harg3 arg5 harg5 arg6 harg6 arg9 arg10 x0 x1 x3 x4)) (rfl : _ = 56)
      (fun x => (congrFun (carry13_eq (kernelRun0_A.sl.r_24 (F := Ideal) c arg2 harg2 arg3 harg3 arg6 harg6 x0 x1 x4) (kernelRun0_A.sl.v1770 (F := Ideal) c arg2 harg2 arg3 harg3 arg5 harg5 arg6 harg6 arg9 arg10 x0 x1 x3 x4) (kernelRun0_A.sl.v1860 (F := Ideal) c arg2 harg2 arg3 harg3 arg5 harg5 arg6 harg6 arg9 arg10 x0 x1 x3 x4)) x).trans (grpCarry_val 52 ar vr (fun _ _ => 0) (kernelRun0_A.sl.r_24 (F := Ideal) c arg2 harg2 arg3 harg3 arg6 harg6 x0 x1 x4) _ (k0_pay2 (F := Ideal)) ha hV hc slices_S64x256_o52_0_S4x256 inb_S64x64x256_S4x64x256_52_0_0 inb_S64x64x1_S4x64x1_52_0_0 _ v13 _ c13 (by decide) x))
  replace k14 : Upto (Last ar vr (fun _ _ => 0)) (k0_pay2 (F := Ideal)) 56 (kernelRun0_A.sl.HS0_15 (F := Ideal) c arg2 harg2 arg3 harg3 arg5 harg5 arg6 harg6 arg9 arg10 x0 x1 x3 x4) := k14
  have v14 : (kernelRun0_A.sl.v1874 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![56, 0, 0] (Sg 256).size inb_S64x64x256_S4x64x256_56_0_0) :=
    h14.read arg10.view inb_S64x64x256_S4x64x256_56_0_0
  have c14 : (kernelRun0_A.sl.v1964 (F := Ideal) c arg2 harg2 arg3 harg3 arg5 harg5 arg6 harg6 arg9 arg10 x0 x1 x3 x4) = View.ld (Val := Elt Ideal) (e' := .f32) (k0_pay2 (F := Ideal)) (Rect.unit (s := Sh 1) ![56, 0, 0] (Sg 1).size inb_S64x64x1_S4x64x1_56_0_0) :=
    k14.read arg9.view inb_S64x64x1_S4x64x1_56_0_0
  have h15 : Upto (Mem ar vr (fun _ _ => 0)) (written x4 (k0_pay4 x0 x1) (k0_pay5 x0 x3)) 60 (kernelRun0_A.sl.HS1_16 (F := Ideal) c arg2 harg2 arg3 harg3 arg5 harg5 arg6 harg6 arg9 arg10 x0 x1 x3 x4) :=
    h14.cons inb_S64x64x256_S4x64x256_56_0_0 (k0_pay238 (kernelRun0_A.sl.r_101 (F := Ideal) c arg2 harg2 arg3 harg3 arg6 harg6 x0 x1 x4) (kernelRun0_A.sl.r_102 (F := Ideal) c arg2 harg2 arg3 harg3 arg5 harg5 arg6 harg6 arg9 arg10 x0 x1 x3 x4) (kernelRun0_A.sl.v1964 (F := Ideal) c arg2 harg2 arg3 harg3 arg5 harg5 arg6 harg6 arg9 arg10 x0 x1 x3 x4)) rfl
      (fun x => (congrFun (grp14_eq (kernelRun0_A.sl.r_24 (F := Ideal) c arg2 harg2 arg3 harg3 arg6 harg6 x0 x1 x4) (kernelRun0_A.sl.v1874 (F := Ideal) c arg2 harg2 arg3 harg3 arg5 harg5 arg6 harg6 arg9 arg10 x0 x1 x3 x4) (kernelRun0_A.sl.v1964 (F := Ideal) c arg2 harg2 arg3 harg3 arg5 harg5 arg6 harg6 arg9 arg10 x0 x1 x3 x4)) x).trans (grpOut_val 56 ar vr (fun _ _ => 0) (kernelRun0_A.sl.r_24 (F := Ideal) c arg2 harg2 arg3 harg3 arg6 harg6 x0 x1 x4) _ (k0_pay2 (F := Ideal)) ha hV hc slices_S64x256_o56_0_S4x256 inb_S64x64x256_S4x64x256_56_0_0 inb_S64x64x1_S4x64x1_56_0_0 _ v14 _ c14 (by decide) x))
  have k15 := k14.cons inb_S64x64x1_S4x64x1_56_0_0 (k0_pay239 (kernelRun0_A.sl.r_101 (F := Ideal) c arg2 harg2 arg3 harg3 arg6 harg6 x0 x1 x4) (kernelRun0_A.sl.r_102 (F := Ideal) c arg2 harg2 arg3 harg3 arg5 harg5 arg6 harg6 arg9 arg10 x0 x1 x3 x4) (kernelRun0_A.sl.v1964 (F := Ideal) c arg2 harg2 arg3 harg3 arg5 harg5 arg6 harg6 arg9 arg10 x0 x1 x3 x4)) (rfl : _ = 60)
      (fun x => (congrFun (carry14_eq (kernelRun0_A.sl.r_24 (F := Ideal) c arg2 harg2 arg3 harg3 arg6 harg6 x0 x1 x4) (kernelRun0_A.sl.v1874 (F := Ideal) c arg2 harg2 arg3 harg3 arg5 harg5 arg6 harg6 arg9 arg10 x0 x1 x3 x4) (kernelRun0_A.sl.v1964 (F := Ideal) c arg2 harg2 arg3 harg3 arg5 harg5 arg6 harg6 arg9 arg10 x0 x1 x3 x4)) x).trans (grpCarry_val 56 ar vr (fun _ _ => 0) (kernelRun0_A.sl.r_24 (F := Ideal) c arg2 harg2 arg3 harg3 arg6 harg6 x0 x1 x4) _ (k0_pay2 (F := Ideal)) ha hV hc slices_S64x256_o56_0_S4x256 inb_S64x64x256_S4x64x256_56_0_0 inb_S64x64x1_S4x64x1_56_0_0 _ v14 _ c14 (by decide) x))
  replace k15 : Upto (Last ar vr (fun _ _ => 0)) (k0_pay2 (F := Ideal)) 60 (kernelRun0_A.sl.HS0_16 (F := Ideal) c arg2 harg2 arg3 harg3 arg5 harg5 arg6 harg6 arg9 arg10 x0 x1 x3 x4) := k15
  have v15 : (kernelRun0_A.sl.v1978 (F := Ideal) c arg2 harg2 arg3 harg3 arg5 harg5 arg6 harg6 arg9 arg10 x0 x1 x3 x4) = View.ld (Val := Elt Ideal) (e' := .f32) (written x4 (k0_pay4 x0 x1) (k0_pay5 x0 x3)) (Rect.unit (s := Sh 256) ![60, 0, 0] (Sg 256).size inb_S64x64x256_S4x64x256_60_0_0) :=
    h15.read arg10.view inb_S64x64x256_S4x64x256_60_0_0
  have c15 : (kernelRun0_A.sl.v2068 (F := Ideal) c arg2 harg2 arg3 harg3 arg5 harg5 arg6 harg6 arg9 arg10 x0 x1 x3 x4) = View.ld (Val := Elt Ideal) (e' := .f32) (k0_pay2 (F := Ideal)) (Rect.unit (s := Sh 1) ![60, 0, 0] (Sg 1).size inb_S64x64x1_S4x64x1_60_0_0) :=
    k15.read arg9.view inb_S64x64x1_S4x64x1_60_0_0
  have h16 : Upto (Mem ar vr (fun _ _ => 0)) (written x4 (k0_pay4 x0 x1) (k0_pay5 x0 x3)) 64 (kernelRun0_A.sl.HS1_17 (F := Ideal) c arg2 harg2 arg3 harg3 arg5 harg5 arg6 harg6 arg9 arg10 x0 x1 x3 x4) :=
    h15.cons inb_S64x64x256_S4x64x256_60_0_0 (k0_pay251 (kernelRun0_A.sl.r_106 (F := Ideal) c arg2 harg2 arg3 harg3 arg5 harg5 arg6 harg6 arg9 arg10 x0 x1 x3 x4) (kernelRun0_A.sl.r_107 (F := Ideal) c arg2 harg2 arg3 harg3 arg6 harg6 x0 x1 x4) (kernelRun0_A.sl.r_108 (F := Ideal) c arg2 harg2 arg3 harg3 arg5 harg5 arg6 harg6 arg9 arg10 x0 x1 x3 x4) (kernelRun0_A.sl.v2068 (F := Ideal) c arg2 harg2 arg3 harg3 arg5 harg5 arg6 harg6 arg9 arg10 x0 x1 x3 x4)) rfl
      (fun x => (congrFun (grp15_eq (kernelRun0_A.sl.r_24 (F := Ideal) c arg2 harg2 arg3 harg3 arg6 harg6 x0 x1 x4) (kernelRun0_A.sl.v1978 (F := Ideal) c arg2 harg2 arg3 harg3 arg5 harg5 arg6 harg6 arg9 arg10 x0 x1 x3 x4) (kernelRun0_A.sl.v2068 (F := Ideal) c arg2 harg2 arg3 harg3 arg5 harg5 arg6 harg6 arg9 arg10 x0 x1 x3 x4)) x).trans (grpOut_val 60 ar vr (fun _ _ => 0) (kernelRun0_A.sl.r_24 (F := Ideal) c arg2 harg2 arg3 harg3 arg6 harg6 x0 x1 x4) _ (k0_pay2 (F := Ideal)) ha hV hc slices_S64x256_o60_0_S4x256 inb_S64x64x256_S4x64x256_60_0_0 inb_S64x64x1_S4x64x1_60_0_0 _ v15 _ c15 (by decide) x))
  have k16 := k15.cons inb_S64x64x1_S4x64x1_60_0_0 (k0_pay252 (kernelRun0_A.sl.r_106 (F := Ideal) c arg2 harg2 arg3 harg3 arg5 harg5 arg6 harg6 arg9 arg10 x0 x1 x3 x4) (kernelRun0_A.sl.r_107 (F := Ideal) c arg2 harg2 arg3 harg3 arg6 harg6 x0 x1 x4) (kernelRun0_A.sl.r_108 (F := Ideal) c arg2 harg2 arg3 harg3 arg5 harg5 arg6 harg6 arg9 arg10 x0 x1 x3 x4) (kernelRun0_A.sl.v2068 (F := Ideal) c arg2 harg2 arg3 harg3 arg5 harg5 arg6 harg6 arg9 arg10 x0 x1 x3 x4)) (rfl : _ = 64)
      (fun x => (congrFun (carry15_eq (kernelRun0_A.sl.r_24 (F := Ideal) c arg2 harg2 arg3 harg3 arg6 harg6 x0 x1 x4) (kernelRun0_A.sl.v1978 (F := Ideal) c arg2 harg2 arg3 harg3 arg5 harg5 arg6 harg6 arg9 arg10 x0 x1 x3 x4) (kernelRun0_A.sl.v2068 (F := Ideal) c arg2 harg2 arg3 harg3 arg5 harg5 arg6 harg6 arg9 arg10 x0 x1 x3 x4)) x).trans (grpCarry_val 60 ar vr (fun _ _ => 0) (kernelRun0_A.sl.r_24 (F := Ideal) c arg2 harg2 arg3 harg3 arg6 harg6 x0 x1 x4) _ (k0_pay2 (F := Ideal)) ha hV hc slices_S64x256_o60_0_S4x256 inb_S64x64x256_S4x64x256_60_0_0 inb_S64x64x1_S4x64x1_60_0_0 _ v15 _ c15 (by decide) x))
  exact ⟨h16, k16⟩

theorem outA (hA : ∀ l t, decay x4 (k0_pay4 x0 x1) (ix2 l t) = ((ar l t.val : ℝ) : EReal))
    (hV : ∀ l r t, written x4 (k0_pay4 x0 x1) (k0_pay5 x0 x3) (ix3 l r t) = ((vr l r t.val : ℝ) : EReal)) :
    out0_A_6 (F := Ideal) c i arg2 harg2 arg3 harg3 arg4 harg4 arg5 harg5 arg6 harg6 arg7 harg7 arg8 harg8 arg9 harg9 arg10 harg10 hc0 x0 x1 x2 x3 x4 x5 =
      k0_pay1 (reads x4 (k0_pay6 x0 x2) (Mem ar vr (fun _ _ => 0))) x5 := by
  have hM : (kernelRun0_A.sl.v2082 (F := Ideal) c arg2 harg2 arg3 harg3 arg5 harg5 arg6 harg6 arg9 arg10 x0 x1 x3 x4) = Mem ar vr (fun _ _ => 0) := by
    unfold kernelRun0_A.sl.v2082
    rw [View.readCov_eq_canon', (bufsA c i arg2 harg2 arg3 harg3 arg4 harg4 arg5 harg5 arg6 harg6 arg7 harg7 arg8 harg8 arg9 harg9 arg10 harg10 hc0 x0 x1 x2 x3 x4 x5 ar vr hA hV).1.all]
    exact View.ld_unit_lit' inb_S64x64x256_S64x64x256_0_0_0 (Mem ar vr (fun _ _ => 0)) (by decide)
  have hR : (kernelRun0_A.sl.r_118 (F := Ideal) c arg2 harg2 arg3 harg3 arg4 harg4 arg5 harg5 arg6 harg6 arg9 arg10 x0 x1 x2 x3 x4) = reads x4 (k0_pay6 x0 x2) (Mem ar vr (fun _ _ => 0)) := by
    have e : (kernelRun0_A.sl.r_118 (F := Ideal) c arg2 harg2 arg3 harg3 arg4 harg4 arg5 harg5 arg6 harg6 arg9 arg10 x0 x1 x2 x3 x4) = reads (kernelRun0_A.sl.r (F := Ideal) c arg6 harg6 x4) (kernelRun0_A.sl.r_3 (F := Ideal) c arg2 harg2 arg4 harg4 x0 x2) (kernelRun0_A.sl.v2082 (F := Ideal) c arg2 harg2 arg3 harg3 arg5 harg5 arg6 harg6 arg9 arg10 x0 x1 x3 x4) := rfl
    rw [e, r_eqA, r_3_eqA, hM]
  unfold out0_A_6
  rw [View.read_writes_junk_eq_canon]
  have e : (kernelRun0_A (F := Ideal) c i arg2 harg2 arg3 harg3 arg4 harg4 arg5 harg5 arg6 harg6 arg7 harg7 arg8 harg8 arg9 harg9 arg10 harg10 hc0 x0 x1 x2 x3 x4 x5).1 = [⟨Rect.unit (s := S1x256x1024) ![0, 0, 0] S1x256x1024.size inb_S1x256x1024_S1x256x1024_0_0_0,
      k0_pay1 (kernelRun0_A.sl.r_118 (F := Ideal) c arg2 harg2 arg3 harg3 arg4 harg4 arg5 harg5 arg6 harg6 arg9 arg10 x0 x1 x2 x3 x4) (View.readAt (Elt Ideal) arg7.view (Rect.unit (s := S512x1024) ![0, 0] S512x1024.size inb_S512x1024_S512x1024_0_0).toLoadRect (harg7.unread x5))⟩] := rfl
  rw [e, hR, View.canon_cons_unit_lit' _ _ _ (by decide)]
  simp (disch := decide) only [View.readAt_eq_ld, View.ld_unit_lit', Memref.IsWhole.read_unread]

theorem soutA (hA : ∀ l t, decay x4 (k0_pay4 x0 x1) (ix2 l t) = ((ar l t.val : ℝ) : EReal))
    (hV : ∀ l r t, written x4 (k0_pay4 x0 x1) (k0_pay5 x0 x3) (ix3 l r t) = ((vr l r t.val : ℝ) : EReal)) :
    sout0_A_0 (F := Ideal) c i arg2 harg2 arg3 harg3 arg4 harg4 arg5 harg5 arg6 harg6 arg7 harg7 arg8 harg8 arg9 harg9 arg10 harg10 hc0 x0 x1 x2 x3 x4 x5 =
      Last ar vr (fun _ _ => 0) := by
  unfold sout0_A_0
  rw [View.read_writes_junk_eq_canon]
  exact (bufsA c i arg2 harg2 arg3 harg3 arg4 harg4 arg5 harg5 arg6 harg6 arg7 harg7 arg8 harg8 arg9 harg9 arg10 harg10 hc0 x0 x1 x2 x3 x4 x5 ar vr hA hV).2.all

end

end Cert.KernelIdeal.Body
-- ==== Proof.CaseB.lean ====
module

public import proofs.«01_k».proof.Proof.Vals
public import proofs.«01_k».proof.Proof.Gen.KernelIdeal.Frame

@[expose] public section

set_option maxRecDepth 16384
set_option maxHeartbeats 1000000

noncomputable section

namespace Cert.KernelIdeal.Body

open Cert.KernelIdeal Cert.KernelIdeal.Gen Idealize.ShloMosaic Idealize.SL.Sem

/-! ## What a point of case B leaves -/

section
variable (c : Dev nD) (i : grid0.Coords) (arg2 : Memref sig .tc .vmem S1x256x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S512x1024 .f32) (harg5 : arg5.IsWhole) (arg6 : Memref sig .tc .vmem S64x64 .f32) (harg6 : arg6.IsWhole)
  (arg7 : Memref sig .tc .vmem S512x1024 .f32) (harg7 : arg7.IsWhole) (arg8 : Memref sig .tc .vmem S1x256x1024 .f32) (harg8 : arg8.IsWhole)
  (arg9 : Memref sig .tc .vmem S64x64x1 .f32) (harg9 : arg9.IsWhole) (arg10 : Memref sig .tc .vmem S64x64x256 .f32) (harg10 : arg10.IsWhole)
  (hc0 : ¬cond0_0 i) (x0 : Vec Ideal S1x256x1024 .f32) (x1 x2 x3 : Vec Ideal S512x1024 .f32) (x4 : Vec Ideal S64x64 .f32)
  (x5 : Vec Ideal S512x1024 .f32) (xs0 : Vec Ideal S64x64x1 .f32)
  (ar : Fin 64 → ℕ → ℝ) (vr : Fin 64 → Fin 64 → ℕ → ℝ) (cr : Fin 64 → Fin 64 → ℝ)
theorem r_eqB : (kernelRun0_B.sl.r (F := Ideal) c arg6 harg6 x4) = x4 := by
  unfold kernelRun0_B.sl.r
  simp (disch := decide) only [View.readAt_eq_ld, View.ld_unit_lit', Memref.IsWhole.read_unread]

theorem r_1_eqB : (kernelRun0_B.sl.r_1 (F := Ideal) c arg2 harg2 arg3 harg3 x0 x1) = k0_pay4 x0 x1 := by
  unfold kernelRun0_B.sl.r_1
  simp (disch := decide) only [View.readAt_eq_ld, View.ld_unit_lit', Memref.IsWhole.read_unread]

theorem r_2_eqB : (kernelRun0_B.sl.r_2 (F := Ideal) c arg2 harg2 arg5 harg5 x0 x3) = k0_pay5 x0 x3 := by
  unfold kernelRun0_B.sl.r_2
  simp (disch := decide) only [View.readAt_eq_ld, View.ld_unit_lit', Memref.IsWhole.read_unread]

theorem r_3_eqB : (kernelRun0_B.sl.r_3 (F := Ideal) c arg2 harg2 arg4 harg4 x0 x2) = k0_pay6 x0 x2 := by
  unfold kernelRun0_B.sl.r_3
  simp (disch := decide) only [View.readAt_eq_ld, View.ld_unit_lit', Memref.IsWhole.read_unread]

theorem decay_eqB : (kernelRun0_B.sl.r_24 (F := Ideal) c arg2 harg2 arg3 harg3 arg6 harg6 x0 x1 x4) = decay x4 (k0_pay4 x0 x1) := by
  have e : (kernelRun0_B.sl.r_24 (F := Ideal) c arg2 harg2 arg3 harg3 arg6 harg6 x0 x1 x4) = decay (kernelRun0_B.sl.r (F := Ideal) c arg6 harg6 x4) (kernelRun0_B.sl.r_1 (F := Ideal) c arg2 harg2 arg3 harg3 x0 x1) := rfl
  rw [e, r_eqB, r_1_eqB]

/-- Both scratch buffers after all sixteen groups of rows. -/
theorem bufsB (hA : ∀ l t, decay x4 (k0_pay4 x0 x1) (ix2 l t) = ((ar l t.val : ℝ) : EReal))
    (hV : ∀ l r t, written x4 (k0_pay4 x0 x1) (k0_pay5 x0 x3) (ix3 l r t) = ((vr l r t.val : ℝ) : EReal))
    (hc : ∀ l r, xs0 (ix3 l r 0) = ((cr l r : ℝ) : EReal)) :
    Upto (Mem ar vr cr) (written x4 (k0_pay4 x0 x1) (k0_pay5 x0 x3)) 64 (kernelRun0_B.sl.HS1_17 (F := Ideal) c arg2 harg2 arg3 harg3 arg5 harg5 arg6 harg6 arg9 harg9 arg10 x0 x1 x3 x4 xs0) ∧
      Upto (Last ar vr cr) (View.canon []) 64 (kernelRun0_B (F := Ideal) c i arg2 harg2 arg3 harg3 arg4 harg4 arg5 harg5 arg6 harg6 arg7 harg7 arg8 harg8 arg9 harg9 arg10 harg10 hc0 x0 x1 x2 x3 x4 x5 xs0).2.1 := by
  have ha : ∀ l t, (kernelRun0_B.sl.r_24 (F := Ideal) c arg2 harg2 arg3 harg3 arg6 harg6 x0 x1 x4) (ix2 l t) = ((ar l t.val : ℝ) : EReal) := by
    rw [decay_eqB]; exact hA
  have h0 : Upto (Mem ar vr cr) (written x4 (k0_pay4 x0 x1) (k0_pay5 x0 x3)) 0 (kernelRun0_B.sl.HS1_1 (F := Ideal) c arg2 harg2 arg3 harg3 arg5 harg5 arg6 harg6 x0 x1 x3 x4) := by
    have e : (kernelRun0_B.sl.HS1_1 (F := Ideal) c arg2 harg2 arg3 harg3 arg5 harg5 arg6 harg6 x0 x1 x3 x4) = [⟨Rect.unit (s := Sh 256) ![0, 0, 0] (Sh 256).size inb_S64x64x256_S64x64x256_0_0_0,
        written (kernelRun0_B.sl.r (F := Ideal) c arg6 harg6 x4) (kernelRun0_B.sl.r_1 (F := Ideal) c arg2 harg2 arg3 harg3 x0 x1) (kernelRun0_B.sl.r_2 (F := Ideal) c arg2 harg2 arg5 harg5 x0 x3)⟩] := rfl
    rw [e, r_eqB, r_1_eqB, r_2_eqB]
    exact Upto.whole _ _ _
  have k0 := Upto.nil (Val := Elt Ideal) (e := .f32) (Last ar vr cr)
  have v0 : (kernelRun0_B.sl.v418 (F := Ideal) c arg2 harg2 arg3 harg3 arg5 harg5 arg6 harg6 arg10 x0 x1 x3 x4) = View.ld (Val := Elt Ideal) (e' := .f32) (written x4 (k0_pay4 x0 x1) (k0_pay5 x0 x3)) (Rect.unit (s := Sh 256) ![0, 0, 0] (Sg 256).size inb_S64x64x256_S4x64x256_0_0_0) :=
    h0.read arg10.view inb_S64x64x256_S4x64x256_0_0_0
  have c0 : (View.readAt (Elt Ideal) arg9.view (Rect.unit (s := Sh 1) ![0, 0, 0] (Sg 1).size inb_S64x64x1_S4x64x1_0_0_0).toLoadRect (harg9.unread xs0)) = View.ld (Val := Elt Ideal) (e' := .f32) xs0 (Rect.unit (s := Sh 1) ![0, 0, 0] (Sg 1).size inb_S64x64x1_S4x64x1_0_0_0) :=
    congrArg (fun X => View.ld X (Rect.unit (s := Sh 1) ![0, 0, 0] (Sg 1).size inb_S64x64x1_S4x64x1_0_0_0)) (harg9.read_unread xs0)
  have h1 : Upto (Mem ar vr cr) (written x4 (k0_pay4 x0 x1) (k0_pay5 x0 x3)) 4 (kernelRun0_B.sl.HS1_2 (F := Ideal) c arg2 harg2 arg3 harg3 arg5 harg5 arg6 harg6 arg9 harg9 arg10 x0 x1 x3 x4 xs0) :=
    h0.cons inb_S64x64x256_S4x64x256_0_0_0 (k0_pay54 (kernelRun0_B.sl.r_30 (F := Ideal) c arg2 harg2 arg3 harg3 arg6 harg6 x0 x1 x4) (kernelRun0_B.sl.r_31 (F := Ideal) c arg2 harg2 arg3 harg3 arg5 harg5 arg6 harg6 arg10 x0 x1 x3 x4) k0_pay51 (kernelRun0_B.sl.r_32 (F := Ideal) c arg2 harg2 arg3 harg3 arg6 harg6 x0 x1 x4) (View.readAt (Elt Ideal) arg9.view (Rect.unit (s := Sh 1) ![0, 0, 0] (Sg 1).size inb_S64x64x1_S4x64x1_0_0_0).toLoadRect (harg9.unread xs0))) rfl
      (fun x => (congrFun (grp0_eq (kernelRun0_B.sl.r_24 (F := Ideal) c arg2 harg2 arg3 harg3 arg6 harg6 x0 x1 x4) (kernelRun0_B.sl.v418 (F := Ideal) c arg2 harg2 arg3 harg3 arg5 harg5 arg6 harg6 arg10 x0 x1 x3 x4) (View.readAt (Elt Ideal) arg9.view (Rect.unit (s := Sh 1) ![0, 0, 0] (Sg 1).size inb_S64x64x1_S4x64x1_0_0_0).toLoadRect (harg9.unread xs0))) x).trans (grpOut_val 0 ar vr cr (kernelRun0_B.sl.r_24 (F := Ideal) c arg2 harg2 arg3 harg3 arg6 harg6 x0 x1 x4) _ xs0 ha hV hc slices_S64x256_o0_0_S4x256 inb_S64x64x256_S4x64x256_0_0_0 inb_S64x64x1_S4x64x1_0_0_0 _ v0 _ c0 (by decide) x))
  have k1 := k0.cons inb_S64x64x1_S4x64x1_0_0_0 (k0_pay55 (kernelRun0_B.sl.r_30 (F := Ideal) c arg2 harg2 arg3 harg3 arg6 harg6 x0 x1 x4) (kernelRun0_B.sl.r_31 (F := Ideal) c arg2 harg2 arg3 harg3 arg5 harg5 arg6 harg6 arg10 x0 x1 x3 x4) k0_pay51 (kernelRun0_B.sl.r_32 (F := Ideal) c arg2 harg2 arg3 harg3 arg6 harg6 x0 x1 x4) (View.readAt (Elt Ideal) arg9.view (Rect.unit (s := Sh 1) ![0, 0, 0] (Sg 1).size inb_S64x64x1_S4x64x1_0_0_0).toLoadRect (harg9.unread xs0))) (rfl : _ = 4)
      (fun x => (congrFun (carry0_eq (kernelRun0_B.sl.r_24 (F := Ideal) c arg2 harg2 arg3 harg3 arg6 harg6 x0 x1 x4) (kernelRun0_B.sl.v418 (F := Ideal) c arg2 harg2 arg3 harg3 arg5 harg5 arg6 harg6 arg10 x0 x1 x3 x4) (View.readAt (Elt Ideal) arg9.view (Rect.unit (s := Sh 1) ![0, 0, 0] (Sg 1).size inb_S64x64x1_S4x64x1_0_0_0).toLoadRect (harg9.unread xs0))) x).trans (grpCarry_val 0 ar vr cr (kernelRun0_B.sl.r_24 (F := Ideal) c arg2 harg2 arg3 harg3 arg6 harg6 x0 x1 x4) _ xs0 ha hV hc slices_S64x256_o0_0_S4x256 inb_S64x64x256_S4x64x256_0_0_0 inb_S64x64x1_S4x64x1_0_0_0 _ v0 _ c0 (by decide) x))
  have v1 : (kernelRun0_B.sl.v522 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![4, 0, 0] (Sg 256).size inb_S64x64x256_S4x64x256_4_0_0) :=
    h1.read arg10.view inb_S64x64x256_S4x64x256_4_0_0
  have c1 : (kernelRun0_B.sl.v612 (F := Ideal) c arg9 harg9 xs0) = View.ld (Val := Elt Ideal) (e' := .f32) xs0 (Rect.unit (s := Sh 1) ![4, 0, 0] (Sg 1).size inb_S64x64x1_S4x64x1_4_0_0) :=
    congrArg (fun X => View.ld X (Rect.unit (s := Sh 1) ![4, 0, 0] (Sg 1).size inb_S64x64x1_S4x64x1_4_0_0)) (harg9.read_unread xs0)
  have h2 : Upto (Mem ar vr cr) (written x4 (k0_pay4 x0 x1) (k0_pay5 x0 x3)) 8 (kernelRun0_B.sl.HS1_3 (F := Ideal) c arg2 harg2 arg3 harg3 arg5 harg5 arg6 harg6 arg9 harg9 arg10 x0 x1 x3 x4 xs0) :=
    h1.cons inb_S64x64x256_S4x64x256_4_0_0 (k0_pay68 (kernelRun0_B.sl.r_35 (F := Ideal) c arg2 harg2 arg3 harg3 arg6 harg6 x0 x1 x4) (kernelRun0_B.sl.r_36 (F := Ideal) c arg2 harg2 arg3 harg3 arg5 harg5 arg6 harg6 arg9 harg9 arg10 x0 x1 x3 x4 xs0) k0_pay66 (kernelRun0_B.sl.v612 (F := Ideal) c arg9 harg9 xs0)) rfl
      (fun x => (congrFun (grp1_eq (kernelRun0_B.sl.r_24 (F := Ideal) c arg2 harg2 arg3 harg3 arg6 harg6 x0 x1 x4) (kernelRun0_B.sl.v522 (F := Ideal) c arg2 harg2 arg3 harg3 arg5 harg5 arg6 harg6 arg9 harg9 arg10 x0 x1 x3 x4 xs0) (kernelRun0_B.sl.v612 (F := Ideal) c arg9 harg9 xs0)) x).trans (grpOut_val 4 ar vr cr (kernelRun0_B.sl.r_24 (F := Ideal) c arg2 harg2 arg3 harg3 arg6 harg6 x0 x1 x4) _ xs0 ha hV hc slices_S64x256_o4_0_S4x256 inb_S64x64x256_S4x64x256_4_0_0 inb_S64x64x1_S4x64x1_4_0_0 _ v1 _ c1 (by decide) x))
  have k2 := k1.cons inb_S64x64x1_S4x64x1_4_0_0 (k0_pay69 (kernelRun0_B.sl.r_35 (F := Ideal) c arg2 harg2 arg3 harg3 arg6 harg6 x0 x1 x4) (kernelRun0_B.sl.r_36 (F := Ideal) c arg2 harg2 arg3 harg3 arg5 harg5 arg6 harg6 arg9 harg9 arg10 x0 x1 x3 x4 xs0) k0_pay66 (kernelRun0_B.sl.v612 (F := Ideal) c arg9 harg9 xs0)) (rfl : _ = 8)
      (fun x => (congrFun (carry1_eq (kernelRun0_B.sl.r_24 (F := Ideal) c arg2 harg2 arg3 harg3 arg6 harg6 x0 x1 x4) (kernelRun0_B.sl.v522 (F := Ideal) c arg2 harg2 arg3 harg3 arg5 harg5 arg6 harg6 arg9 harg9 arg10 x0 x1 x3 x4 xs0) (kernelRun0_B.sl.v612 (F := Ideal) c arg9 harg9 xs0)) x).trans (grpCarry_val 4 ar vr cr (kernelRun0_B.sl.r_24 (F := Ideal) c arg2 harg2 arg3 harg3 arg6 harg6 x0 x1 x4) _ xs0 ha hV hc slices_S64x256_o4_0_S4x256 inb_S64x64x256_S4x64x256_4_0_0 inb_S64x64x1_S4x64x1_4_0_0 _ v1 _ c1 (by decide) x))
  have v2 : (kernelRun0_B.sl.v626 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![8, 0, 0] (Sg 256).size inb_S64x64x256_S4x64x256_8_0_0) :=
    h2.read arg10.view inb_S64x64x256_S4x64x256_8_0_0
  have c2 : (kernelRun0_B.sl.v716 (F := Ideal) c arg9 harg9 xs0) = View.ld (Val := Elt Ideal) (e' := .f32) xs0 (Rect.unit (s := Sh 1) ![8, 0, 0] (Sg 1).size inb_S64x64x1_S4x64x1_8_0_0) :=
    congrArg (fun X => View.ld X (Rect.unit (s := Sh 1) ![8, 0, 0] (Sg 1).size inb_S64x64x1_S4x64x1_8_0_0)) (harg9.read_unread xs0)
  have h3 : Upto (Mem ar vr cr) (written x4 (k0_pay4 x0 x1) (k0_pay5 x0 x3)) 12 (kernelRun0_B.sl.HS1_4 (F := Ideal) c arg2 harg2 arg3 harg3 arg5 harg5 arg6 harg6 arg9 harg9 arg10 x0 x1 x3 x4 xs0) :=
    h2.cons inb_S64x64x256_S4x64x256_8_0_0 (k0_pay79 (kernelRun0_B.sl.r_39 (F := Ideal) c arg2 harg2 arg3 harg3 arg6 harg6 x0 x1 x4) (kernelRun0_B.sl.r_40 (F := Ideal) c arg2 harg2 arg3 harg3 arg5 harg5 arg6 harg6 arg9 harg9 arg10 x0 x1 x3 x4 xs0) (kernelRun0_B.sl.cst_131 (F := Ideal)) (kernelRun0_B.sl.v716 (F := Ideal) c arg9 harg9 xs0)) rfl
      (fun x => (congrFun (grp2_eq (kernelRun0_B.sl.r_24 (F := Ideal) c arg2 harg2 arg3 harg3 arg6 harg6 x0 x1 x4) (kernelRun0_B.sl.v626 (F := Ideal) c arg2 harg2 arg3 harg3 arg5 harg5 arg6 harg6 arg9 harg9 arg10 x0 x1 x3 x4 xs0) (kernelRun0_B.sl.v716 (F := Ideal) c arg9 harg9 xs0)) x).trans (grpOut_val 8 ar vr cr (kernelRun0_B.sl.r_24 (F := Ideal) c arg2 harg2 arg3 harg3 arg6 harg6 x0 x1 x4) _ xs0 ha hV hc slices_S64x256_o8_0_S4x256 inb_S64x64x256_S4x64x256_8_0_0 inb_S64x64x1_S4x64x1_8_0_0 _ v2 _ c2 (by decide) x))
  have k3 := k2.cons inb_S64x64x1_S4x64x1_8_0_0 (k0_pay80 (kernelRun0_B.sl.r_39 (F := Ideal) c arg2 harg2 arg3 harg3 arg6 harg6 x0 x1 x4) (kernelRun0_B.sl.r_40 (F := Ideal) c arg2 harg2 arg3 harg3 arg5 harg5 arg6 harg6 arg9 harg9 arg10 x0 x1 x3 x4 xs0) (kernelRun0_B.sl.cst_131 (F := Ideal)) (kernelRun0_B.sl.v716 (F := Ideal) c arg9 harg9 xs0)) (rfl : _ = 12)
      (fun x => (congrFun (carry2_eq (kernelRun0_B.sl.r_24 (F := Ideal) c arg2 harg2 arg3 harg3 arg6 harg6 x0 x1 x4) (kernelRun0_B.sl.v626 (F := Ideal) c arg2 harg2 arg3 harg3 arg5 harg5 arg6 harg6 arg9 harg9 arg10 x0 x1 x3 x4 xs0) (kernelRun0_B.sl.v716 (F := Ideal) c arg9 harg9 xs0)) x).trans (grpCarry_val 8 ar vr cr (kernelRun0_B.sl.r_24 (F := Ideal) c arg2 harg2 arg3 harg3 arg6 harg6 x0 x1 x4) _ xs0 ha hV hc slices_S64x256_o8_0_S4x256 inb_S64x64x256_S4x64x256_8_0_0 inb_S64x64x1_S4x64x1_8_0_0 _ v2 _ c2 (by decide) x))
  have v3 : (kernelRun0_B.sl.v730 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![12, 0, 0] (Sg 256).size inb_S64x64x256_S4x64x256_12_0_0) :=
    h3.read arg10.view inb_S64x64x256_S4x64x256_12_0_0
  have c3 : (kernelRun0_B.sl.v820 (F := Ideal) c arg9 harg9 xs0) = View.ld (Val := Elt Ideal) (e' := .f32) xs0 (Rect.unit (s := Sh 1) ![12, 0, 0] (Sg 1).size inb_S64x64x1_S4x64x1_12_0_0) :=
    congrArg (fun X => View.ld X (Rect.unit (s := Sh 1) ![12, 0, 0] (Sg 1).size inb_S64x64x1_S4x64x1_12_0_0)) (harg9.read_unread xs0)
  have h4 : Upto (Mem ar vr cr) (written x4 (k0_pay4 x0 x1) (k0_pay5 x0 x3)) 16 (kernelRun0_B.sl.HS1_5 (F := Ideal) c arg2 harg2 arg3 harg3 arg5 harg5 arg6 harg6 arg9 harg9 arg10 x0 x1 x3 x4 xs0) :=
    h3.cons inb_S64x64x256_S4x64x256_12_0_0 ((kernelRun0_B.sl.r_45 (F := Ideal) c arg2 harg2 arg3 harg3 arg5 harg5 arg6 harg6 arg9 harg9 arg10 x0 x1 x3 x4 xs0)) rfl
      (fun x => (congrFun (grp3_eq (kernelRun0_B.sl.r_24 (F := Ideal) c arg2 harg2 arg3 harg3 arg6 harg6 x0 x1 x4) (kernelRun0_B.sl.v730 (F := Ideal) c arg2 harg2 arg3 harg3 arg5 harg5 arg6 harg6 arg9 harg9 arg10 x0 x1 x3 x4 xs0) (kernelRun0_B.sl.v820 (F := Ideal) c arg9 harg9 xs0)) x).trans (grpOut_val 12 ar vr cr (kernelRun0_B.sl.r_24 (F := Ideal) c arg2 harg2 arg3 harg3 arg6 harg6 x0 x1 x4) _ xs0 ha hV hc slices_S64x256_o12_0_S4x256 inb_S64x64x256_S4x64x256_12_0_0 inb_S64x64x1_S4x64x1_12_0_0 _ v3 _ c3 (by decide) x))
  have k4 := k3.cons inb_S64x64x1_S4x64x1_12_0_0 (k0_pay89 (kernelRun0_B.sl.r_44 (F := Ideal) c arg2 harg2 arg3 harg3 arg5 harg5 arg6 harg6 arg9 harg9 arg10 x0 x1 x3 x4 xs0)) (rfl : _ = 16)
      (fun x => (congrFun (carry3_eq (kernelRun0_B.sl.r_24 (F := Ideal) c arg2 harg2 arg3 harg3 arg6 harg6 x0 x1 x4) (kernelRun0_B.sl.v730 (F := Ideal) c arg2 harg2 arg3 harg3 arg5 harg5 arg6 harg6 arg9 harg9 arg10 x0 x1 x3 x4 xs0) (kernelRun0_B.sl.v820 (F := Ideal) c arg9 harg9 xs0)) x).trans (grpCarry_val 12 ar vr cr (kernelRun0_B.sl.r_24 (F := Ideal) c arg2 harg2 arg3 harg3 arg6 harg6 x0 x1 x4) _ xs0 ha hV hc slices_S64x256_o12_0_S4x256 inb_S64x64x256_S4x64x256_12_0_0 inb_S64x64x1_S4x64x1_12_0_0 _ v3 _ c3 (by decide) x))
  have v4 : (kernelRun0_B.sl.v834 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![16, 0, 0] (Sg 256).size inb_S64x64x256_S4x64x256_16_0_0) :=
    h4.read arg10.view inb_S64x64x256_S4x64x256_16_0_0
  have c4 : (kernelRun0_B.sl.v924 (F := Ideal) c arg9 harg9 xs0) = View.ld (Val := Elt Ideal) (e' := .f32) xs0 (Rect.unit (s := Sh 1) ![16, 0, 0] (Sg 1).size inb_S64x64x1_S4x64x1_16_0_0) :=
    congrArg (fun X => View.ld X (Rect.unit (s := Sh 1) ![16, 0, 0] (Sg 1).size inb_S64x64x1_S4x64x1_16_0_0)) (harg9.read_unread xs0)
  have h5 : Upto (Mem ar vr cr) (written x4 (k0_pay4 x0 x1) (k0_pay5 x0 x3)) 20 (kernelRun0_B.sl.HS1_6 (F := Ideal) c arg2 harg2 arg3 harg3 arg5 harg5 arg6 harg6 arg9 harg9 arg10 x0 x1 x3 x4 xs0) :=
    h4.cons inb_S64x64x256_S4x64x256_16_0_0 (k0_pay103 (kernelRun0_B.sl.r_49 (F := Ideal) c arg2 harg2 arg3 harg3 arg5 harg5 arg6 harg6 arg9 harg9 arg10 x0 x1 x3 x4 xs0) (kernelRun0_B.sl.r_50 (F := Ideal) c arg2 harg2 arg3 harg3 arg6 harg6 x0 x1 x4) (kernelRun0_B.sl.v924 (F := Ideal) c arg9 harg9 xs0)) rfl
      (fun x => (congrFun (grp4_eq (kernelRun0_B.sl.r_24 (F := Ideal) c arg2 harg2 arg3 harg3 arg6 harg6 x0 x1 x4) (kernelRun0_B.sl.v834 (F := Ideal) c arg2 harg2 arg3 harg3 arg5 harg5 arg6 harg6 arg9 harg9 arg10 x0 x1 x3 x4 xs0) (kernelRun0_B.sl.v924 (F := Ideal) c arg9 harg9 xs0)) x).trans (grpOut_val 16 ar vr cr (kernelRun0_B.sl.r_24 (F := Ideal) c arg2 harg2 arg3 harg3 arg6 harg6 x0 x1 x4) _ xs0 ha hV hc slices_S64x256_o16_0_S4x256 inb_S64x64x256_S4x64x256_16_0_0 inb_S64x64x1_S4x64x1_16_0_0 _ v4 _ c4 (by decide) x))
  have k5 := k4.cons inb_S64x64x1_S4x64x1_16_0_0 (k0_pay104 (kernelRun0_B.sl.r_49 (F := Ideal) c arg2 harg2 arg3 harg3 arg5 harg5 arg6 harg6 arg9 harg9 arg10 x0 x1 x3 x4 xs0) (kernelRun0_B.sl.r_50 (F := Ideal) c arg2 harg2 arg3 harg3 arg6 harg6 x0 x1 x4) (kernelRun0_B.sl.v924 (F := Ideal) c arg9 harg9 xs0)) (rfl : _ = 20)
      (fun x => (congrFun (carry4_eq (kernelRun0_B.sl.r_24 (F := Ideal) c arg2 harg2 arg3 harg3 arg6 harg6 x0 x1 x4) (kernelRun0_B.sl.v834 (F := Ideal) c arg2 harg2 arg3 harg3 arg5 harg5 arg6 harg6 arg9 harg9 arg10 x0 x1 x3 x4 xs0) (kernelRun0_B.sl.v924 (F := Ideal) c arg9 harg9 xs0)) x).trans (grpCarry_val 16 ar vr cr (kernelRun0_B.sl.r_24 (F := Ideal) c arg2 harg2 arg3 harg3 arg6 harg6 x0 x1 x4) _ xs0 ha hV hc slices_S64x256_o16_0_S4x256 inb_S64x64x256_S4x64x256_16_0_0 inb_S64x64x1_S4x64x1_16_0_0 _ v4 _ c4 (by decide) x))
  have v5 : (kernelRun0_B.sl.v938 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![20, 0, 0] (Sg 256).size inb_S64x64x256_S4x64x256_20_0_0) :=
    h5.read arg10.view inb_S64x64x256_S4x64x256_20_0_0
  have c5 : (kernelRun0_B.sl.v1028 (F := Ideal) c arg9 harg9 xs0) = View.ld (Val := Elt Ideal) (e' := .f32) xs0 (Rect.unit (s := Sh 1) ![20, 0, 0] (Sg 1).size inb_S64x64x1_S4x64x1_20_0_0) :=
    congrArg (fun X => View.ld X (Rect.unit (s := Sh 1) ![20, 0, 0] (Sg 1).size inb_S64x64x1_S4x64x1_20_0_0)) (harg9.read_unread xs0)
  have h6 : Upto (Mem ar vr cr) (written x4 (k0_pay4 x0 x1) (k0_pay5 x0 x3)) 24 (kernelRun0_B.sl.HS1_7 (F := Ideal) c arg2 harg2 arg3 harg3 arg5 harg5 arg6 harg6 arg9 harg9 arg10 x0 x1 x3 x4 xs0) :=
    h5.cons inb_S64x64x256_S4x64x256_20_0_0 (k0_pay118 (kernelRun0_B.sl.r_55 (F := Ideal) c arg2 harg2 arg3 harg3 arg5 harg5 arg6 harg6 arg9 harg9 arg10 x0 x1 x3 x4 xs0) (kernelRun0_B.sl.r_56 (F := Ideal) c arg2 harg2 arg3 harg3 arg6 harg6 x0 x1 x4) (kernelRun0_B.sl.cst_122 (F := Ideal)) (kernelRun0_B.sl.v1028 (F := Ideal) c arg9 harg9 xs0)) rfl
      (fun x => (congrFun (grp5_eq (kernelRun0_B.sl.r_24 (F := Ideal) c arg2 harg2 arg3 harg3 arg6 harg6 x0 x1 x4) (kernelRun0_B.sl.v938 (F := Ideal) c arg2 harg2 arg3 harg3 arg5 harg5 arg6 harg6 arg9 harg9 arg10 x0 x1 x3 x4 xs0) (kernelRun0_B.sl.v1028 (F := Ideal) c arg9 harg9 xs0)) x).trans (grpOut_val 20 ar vr cr (kernelRun0_B.sl.r_24 (F := Ideal) c arg2 harg2 arg3 harg3 arg6 harg6 x0 x1 x4) _ xs0 ha hV hc slices_S64x256_o20_0_S4x256 inb_S64x64x256_S4x64x256_20_0_0 inb_S64x64x1_S4x64x1_20_0_0 _ v5 _ c5 (by decide) x))
  have k6 := k5.cons inb_S64x64x1_S4x64x1_20_0_0 (k0_pay119 (kernelRun0_B.sl.r_55 (F := Ideal) c arg2 harg2 arg3 harg3 arg5 harg5 arg6 harg6 arg9 harg9 arg10 x0 x1 x3 x4 xs0) (kernelRun0_B.sl.r_56 (F := Ideal) c arg2 harg2 arg3 harg3 arg6 harg6 x0 x1 x4) (kernelRun0_B.sl.cst_122 (F := Ideal)) (kernelRun0_B.sl.v1028 (F := Ideal) c arg9 harg9 xs0)) (rfl : _ = 24)
      (fun x => (congrFun (carry5_eq (kernelRun0_B.sl.r_24 (F := Ideal) c arg2 harg2 arg3 harg3 arg6 harg6 x0 x1 x4) (kernelRun0_B.sl.v938 (F := Ideal) c arg2 harg2 arg3 harg3 arg5 harg5 arg6 harg6 arg9 harg9 arg10 x0 x1 x3 x4 xs0) (kernelRun0_B.sl.v1028 (F := Ideal) c arg9 harg9 xs0)) x).trans (grpCarry_val 20 ar vr cr (kernelRun0_B.sl.r_24 (F := Ideal) c arg2 harg2 arg3 harg3 arg6 harg6 x0 x1 x4) _ xs0 ha hV hc slices_S64x256_o20_0_S4x256 inb_S64x64x256_S4x64x256_20_0_0 inb_S64x64x1_S4x64x1_20_0_0 _ v5 _ c5 (by decide) x))
  have v6 : (kernelRun0_B.sl.v1042 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![24, 0, 0] (Sg 256).size inb_S64x64x256_S4x64x256_24_0_0) :=
    h6.read arg10.view inb_S64x64x256_S4x64x256_24_0_0
  have c6 : (kernelRun0_B.sl.v1132 (F := Ideal) c arg9 harg9 xs0) = View.ld (Val := Elt Ideal) (e' := .f32) xs0 (Rect.unit (s := Sh 1) ![24, 0, 0] (Sg 1).size inb_S64x64x1_S4x64x1_24_0_0) :=
    congrArg (fun X => View.ld X (Rect.unit (s := Sh 1) ![24, 0, 0] (Sg 1).size inb_S64x64x1_S4x64x1_24_0_0)) (harg9.read_unread xs0)
  have h7 : Upto (Mem ar vr cr) (written x4 (k0_pay4 x0 x1) (k0_pay5 x0 x3)) 28 (kernelRun0_B.sl.HS1_8 (F := Ideal) c arg2 harg2 arg3 harg3 arg5 harg5 arg6 harg6 arg9 harg9 arg10 x0 x1 x3 x4 xs0) :=
    h6.cons inb_S64x64x256_S4x64x256_24_0_0 (k0_pay132 (kernelRun0_B.sl.r_61 (F := Ideal) c arg2 harg2 arg3 harg3 arg5 harg5 arg6 harg6 arg9 harg9 arg10 x0 x1 x3 x4 xs0) (kernelRun0_B.sl.r_62 (F := Ideal) c arg2 harg2 arg3 harg3 arg6 harg6 x0 x1 x4) (kernelRun0_B.sl.v1132 (F := Ideal) c arg9 harg9 xs0)) rfl
      (fun x => (congrFun (grp6_eq (kernelRun0_B.sl.r_24 (F := Ideal) c arg2 harg2 arg3 harg3 arg6 harg6 x0 x1 x4) (kernelRun0_B.sl.v1042 (F := Ideal) c arg2 harg2 arg3 harg3 arg5 harg5 arg6 harg6 arg9 harg9 arg10 x0 x1 x3 x4 xs0) (kernelRun0_B.sl.v1132 (F := Ideal) c arg9 harg9 xs0)) x).trans (grpOut_val 24 ar vr cr (kernelRun0_B.sl.r_24 (F := Ideal) c arg2 harg2 arg3 harg3 arg6 harg6 x0 x1 x4) _ xs0 ha hV hc slices_S64x256_o24_0_S4x256 inb_S64x64x256_S4x64x256_24_0_0 inb_S64x64x1_S4x64x1_24_0_0 _ v6 _ c6 (by decide) x))
  have k7 := k6.cons inb_S64x64x1_S4x64x1_24_0_0 (k0_pay133 (kernelRun0_B.sl.r_61 (F := Ideal) c arg2 harg2 arg3 harg3 arg5 harg5 arg6 harg6 arg9 harg9 arg10 x0 x1 x3 x4 xs0) (kernelRun0_B.sl.r_62 (F := Ideal) c arg2 harg2 arg3 harg3 arg6 harg6 x0 x1 x4) (kernelRun0_B.sl.v1132 (F := Ideal) c arg9 harg9 xs0)) (rfl : _ = 28)
      (fun x => (congrFun (carry6_eq (kernelRun0_B.sl.r_24 (F := Ideal) c arg2 harg2 arg3 harg3 arg6 harg6 x0 x1 x4) (kernelRun0_B.sl.v1042 (F := Ideal) c arg2 harg2 arg3 harg3 arg5 harg5 arg6 harg6 arg9 harg9 arg10 x0 x1 x3 x4 xs0) (kernelRun0_B.sl.v1132 (F := Ideal) c arg9 harg9 xs0)) x).trans (grpCarry_val 24 ar vr cr (kernelRun0_B.sl.r_24 (F := Ideal) c arg2 harg2 arg3 harg3 arg6 harg6 x0 x1 x4) _ xs0 ha hV hc slices_S64x256_o24_0_S4x256 inb_S64x64x256_S4x64x256_24_0_0 inb_S64x64x1_S4x64x1_24_0_0 _ v6 _ c6 (by decide) x))
  have v7 : (kernelRun0_B.sl.v1146 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![28, 0, 0] (Sg 256).size inb_S64x64x256_S4x64x256_28_0_0) :=
    h7.read arg10.view inb_S64x64x256_S4x64x256_28_0_0
  have c7 : (kernelRun0_B.sl.v1236 (F := Ideal) c arg9 harg9 xs0) = View.ld (Val := Elt Ideal) (e' := .f32) xs0 (Rect.unit (s := Sh 1) ![28, 0, 0] (Sg 1).size inb_S64x64x1_S4x64x1_28_0_0) :=
    congrArg (fun X => View.ld X (Rect.unit (s := Sh 1) ![28, 0, 0] (Sg 1).size inb_S64x64x1_S4x64x1_28_0_0)) (harg9.read_unread xs0)
  have h8 : Upto (Mem ar vr cr) (written x4 (k0_pay4 x0 x1) (k0_pay5 x0 x3)) 32 (kernelRun0_B.sl.HS1_9 (F := Ideal) c arg2 harg2 arg3 harg3 arg5 harg5 arg6 harg6 arg9 harg9 arg10 x0 x1 x3 x4 xs0) :=
    h7.cons inb_S64x64x256_S4x64x256_28_0_0 (k0_pay143 (kernelRun0_B.sl.r_65 (F := Ideal) c arg2 harg2 arg3 harg3 arg6 harg6 x0 x1 x4) (kernelRun0_B.sl.r_66 (F := Ideal) c arg2 harg2 arg3 harg3 arg5 harg5 arg6 harg6 arg9 harg9 arg10 x0 x1 x3 x4 xs0) (kernelRun0_B.sl.r_67 (F := Ideal) c arg2 harg2 arg3 harg3 arg6 harg6 x0 x1 x4) (kernelRun0_B.sl.v1236 (F := Ideal) c arg9 harg9 xs0)) rfl
      (fun x => (congrFun (grp7_eq (kernelRun0_B.sl.r_24 (F := Ideal) c arg2 harg2 arg3 harg3 arg6 harg6 x0 x1 x4) (kernelRun0_B.sl.v1146 (F := Ideal) c arg2 harg2 arg3 harg3 arg5 harg5 arg6 harg6 arg9 harg9 arg10 x0 x1 x3 x4 xs0) (kernelRun0_B.sl.v1236 (F := Ideal) c arg9 harg9 xs0)) x).trans (grpOut_val 28 ar vr cr (kernelRun0_B.sl.r_24 (F := Ideal) c arg2 harg2 arg3 harg3 arg6 harg6 x0 x1 x4) _ xs0 ha hV hc slices_S64x256_o28_0_S4x256 inb_S64x64x256_S4x64x256_28_0_0 inb_S64x64x1_S4x64x1_28_0_0 _ v7 _ c7 (by decide) x))
  have k8 := k7.cons inb_S64x64x1_S4x64x1_28_0_0 (k0_pay145 (kernelRun0_B.sl.r_68 (F := Ideal) c arg2 harg2 arg3 harg3 arg5 harg5 arg6 harg6 arg9 harg9 arg10 x0 x1 x3 x4 xs0)) (rfl : _ = 32)
      (fun x => (congrFun (carry7_eq (kernelRun0_B.sl.r_24 (F := Ideal) c arg2 harg2 arg3 harg3 arg6 harg6 x0 x1 x4) (kernelRun0_B.sl.v1146 (F := Ideal) c arg2 harg2 arg3 harg3 arg5 harg5 arg6 harg6 arg9 harg9 arg10 x0 x1 x3 x4 xs0) (kernelRun0_B.sl.v1236 (F := Ideal) c arg9 harg9 xs0)) x).trans (grpCarry_val 28 ar vr cr (kernelRun0_B.sl.r_24 (F := Ideal) c arg2 harg2 arg3 harg3 arg6 harg6 x0 x1 x4) _ xs0 ha hV hc slices_S64x256_o28_0_S4x256 inb_S64x64x256_S4x64x256_28_0_0 inb_S64x64x1_S4x64x1_28_0_0 _ v7 _ c7 (by decide) x))
  have v8 : (kernelRun0_B.sl.v1250 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![32, 0, 0] (Sg 256).size inb_S64x64x256_S4x64x256_32_0_0) :=
    h8.read arg10.view inb_S64x64x256_S4x64x256_32_0_0
  have c8 : (kernelRun0_B.sl.v1340 (F := Ideal) c arg9 harg9 xs0) = View.ld (Val := Elt Ideal) (e' := .f32) xs0 (Rect.unit (s := Sh 1) ![32, 0, 0] (Sg 1).size inb_S64x64x1_S4x64x1_32_0_0) :=
    congrArg (fun X => View.ld X (Rect.unit (s := Sh 1) ![32, 0, 0] (Sg 1).size inb_S64x64x1_S4x64x1_32_0_0)) (harg9.read_unread xs0)
  have h9 : Upto (Mem ar vr cr) (written x4 (k0_pay4 x0 x1) (k0_pay5 x0 x3)) 36 (kernelRun0_B.sl.HS1_10 (F := Ideal) c arg2 harg2 arg3 harg3 arg5 harg5 arg6 harg6 arg9 harg9 arg10 x0 x1 x3 x4 xs0) :=
    h8.cons inb_S64x64x256_S4x64x256_32_0_0 (k0_pay161 (kernelRun0_B.sl.r_72 (F := Ideal) c arg2 harg2 arg3 harg3 arg5 harg5 arg6 harg6 arg9 harg9 arg10 x0 x1 x3 x4 xs0) (kernelRun0_B.sl.r_73 (F := Ideal) c arg2 harg2 arg3 harg3 arg6 harg6 x0 x1 x4) (kernelRun0_B.sl.r_74 (F := Ideal) c arg9 harg9 xs0)) rfl
      (fun x => (congrFun (grp8_eq (kernelRun0_B.sl.r_24 (F := Ideal) c arg2 harg2 arg3 harg3 arg6 harg6 x0 x1 x4) (kernelRun0_B.sl.v1250 (F := Ideal) c arg2 harg2 arg3 harg3 arg5 harg5 arg6 harg6 arg9 harg9 arg10 x0 x1 x3 x4 xs0) (kernelRun0_B.sl.v1340 (F := Ideal) c arg9 harg9 xs0)) x).trans (grpOut_val 32 ar vr cr (kernelRun0_B.sl.r_24 (F := Ideal) c arg2 harg2 arg3 harg3 arg6 harg6 x0 x1 x4) _ xs0 ha hV hc slices_S64x256_o32_0_S4x256 inb_S64x64x256_S4x64x256_32_0_0 inb_S64x64x1_S4x64x1_32_0_0 _ v8 _ c8 (by decide) x))
  have k9 := k8.cons inb_S64x64x1_S4x64x1_32_0_0 (k0_pay162 (kernelRun0_B.sl.r_72 (F := Ideal) c arg2 harg2 arg3 harg3 arg5 harg5 arg6 harg6 arg9 harg9 arg10 x0 x1 x3 x4 xs0) (kernelRun0_B.sl.r_73 (F := Ideal) c arg2 harg2 arg3 harg3 arg6 harg6 x0 x1 x4) (kernelRun0_B.sl.r_74 (F := Ideal) c arg9 harg9 xs0)) (rfl : _ = 36)
      (fun x => (congrFun (carry8_eq (kernelRun0_B.sl.r_24 (F := Ideal) c arg2 harg2 arg3 harg3 arg6 harg6 x0 x1 x4) (kernelRun0_B.sl.v1250 (F := Ideal) c arg2 harg2 arg3 harg3 arg5 harg5 arg6 harg6 arg9 harg9 arg10 x0 x1 x3 x4 xs0) (kernelRun0_B.sl.v1340 (F := Ideal) c arg9 harg9 xs0)) x).trans (grpCarry_val 32 ar vr cr (kernelRun0_B.sl.r_24 (F := Ideal) c arg2 harg2 arg3 harg3 arg6 harg6 x0 x1 x4) _ xs0 ha hV hc slices_S64x256_o32_0_S4x256 inb_S64x64x256_S4x64x256_32_0_0 inb_S64x64x1_S4x64x1_32_0_0 _ v8 _ c8 (by decide) x))
  have v9 : (kernelRun0_B.sl.v1354 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![36, 0, 0] (Sg 256).size inb_S64x64x256_S4x64x256_36_0_0) :=
    h9.read arg10.view inb_S64x64x256_S4x64x256_36_0_0
  have c9 : (kernelRun0_B.sl.v1444 (F := Ideal) c arg9 harg9 xs0) = View.ld (Val := Elt Ideal) (e' := .f32) xs0 (Rect.unit (s := Sh 1) ![36, 0, 0] (Sg 1).size inb_S64x64x1_S4x64x1_36_0_0) :=
    congrArg (fun X => View.ld X (Rect.unit (s := Sh 1) ![36, 0, 0] (Sg 1).size inb_S64x64x1_S4x64x1_36_0_0)) (harg9.read_unread xs0)
  have h10 : Upto (Mem ar vr cr) (written x4 (k0_pay4 x0 x1) (k0_pay5 x0 x3)) 40 (kernelRun0_B.sl.HS1_11 (F := Ideal) c arg2 harg2 arg3 harg3 arg5 harg5 arg6 harg6 arg9 harg9 arg10 x0 x1 x3 x4 xs0) :=
    h9.cons inb_S64x64x256_S4x64x256_36_0_0 (k0_pay177 (kernelRun0_B.sl.r_77 (F := Ideal) c arg2 harg2 arg3 harg3 arg5 harg5 arg6 harg6 arg9 harg9 arg10 x0 x1 x3 x4 xs0) (kernelRun0_B.sl.r_78 (F := Ideal) c arg2 harg2 arg3 harg3 arg6 harg6 x0 x1 x4) (kernelRun0_B.sl.r_79 (F := Ideal) c arg2 harg2 arg3 harg3 arg5 harg5 arg6 harg6 arg9 harg9 arg10 x0 x1 x3 x4 xs0) (kernelRun0_B.sl.r_80 (F := Ideal) c arg2 harg2 arg3 harg3 arg6 harg6 x0 x1 x4) (kernelRun0_B.sl.v1444 (F := Ideal) c arg9 harg9 xs0)) rfl
      (fun x => (congrFun (grp9_eq (kernelRun0_B.sl.r_24 (F := Ideal) c arg2 harg2 arg3 harg3 arg6 harg6 x0 x1 x4) (kernelRun0_B.sl.v1354 (F := Ideal) c arg2 harg2 arg3 harg3 arg5 harg5 arg6 harg6 arg9 harg9 arg10 x0 x1 x3 x4 xs0) (kernelRun0_B.sl.v1444 (F := Ideal) c arg9 harg9 xs0)) x).trans (grpOut_val 36 ar vr cr (kernelRun0_B.sl.r_24 (F := Ideal) c arg2 harg2 arg3 harg3 arg6 harg6 x0 x1 x4) _ xs0 ha hV hc slices_S64x256_o36_0_S4x256 inb_S64x64x256_S4x64x256_36_0_0 inb_S64x64x1_S4x64x1_36_0_0 _ v9 _ c9 (by decide) x))
  have k10 := k9.cons inb_S64x64x1_S4x64x1_36_0_0 (k0_pay178 (kernelRun0_B.sl.r_77 (F := Ideal) c arg2 harg2 arg3 harg3 arg5 harg5 arg6 harg6 arg9 harg9 arg10 x0 x1 x3 x4 xs0) (kernelRun0_B.sl.r_78 (F := Ideal) c arg2 harg2 arg3 harg3 arg6 harg6 x0 x1 x4) (kernelRun0_B.sl.r_79 (F := Ideal) c arg2 harg2 arg3 harg3 arg5 harg5 arg6 harg6 arg9 harg9 arg10 x0 x1 x3 x4 xs0) (kernelRun0_B.sl.r_80 (F := Ideal) c arg2 harg2 arg3 harg3 arg6 harg6 x0 x1 x4) (kernelRun0_B.sl.v1444 (F := Ideal) c arg9 harg9 xs0)) (rfl : _ = 40)
      (fun x => (congrFun (carry9_eq (kernelRun0_B.sl.r_24 (F := Ideal) c arg2 harg2 arg3 harg3 arg6 harg6 x0 x1 x4) (kernelRun0_B.sl.v1354 (F := Ideal) c arg2 harg2 arg3 harg3 arg5 harg5 arg6 harg6 arg9 harg9 arg10 x0 x1 x3 x4 xs0) (kernelRun0_B.sl.v1444 (F := Ideal) c arg9 harg9 xs0)) x).trans (grpCarry_val 36 ar vr cr (kernelRun0_B.sl.r_24 (F := Ideal) c arg2 harg2 arg3 harg3 arg6 harg6 x0 x1 x4) _ xs0 ha hV hc slices_S64x256_o36_0_S4x256 inb_S64x64x256_S4x64x256_36_0_0 inb_S64x64x1_S4x64x1_36_0_0 _ v9 _ c9 (by decide) x))
  have v10 : (kernelRun0_B.sl.v1458 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![40, 0, 0] (Sg 256).size inb_S64x64x256_S4x64x256_40_0_0) :=
    h10.read arg10.view inb_S64x64x256_S4x64x256_40_0_0
  have c10 : (kernelRun0_B.sl.v1548 (F := Ideal) c arg9 harg9 xs0) = View.ld (Val := Elt Ideal) (e' := .f32) xs0 (Rect.unit (s := Sh 1) ![40, 0, 0] (Sg 1).size inb_S64x64x1_S4x64x1_40_0_0) :=
    congrArg (fun X => View.ld X (Rect.unit (s := Sh 1) ![40, 0, 0] (Sg 1).size inb_S64x64x1_S4x64x1_40_0_0)) (harg9.read_unread xs0)
  have h11 : Upto (Mem ar vr cr) (written x4 (k0_pay4 x0 x1) (k0_pay5 x0 x3)) 44 (kernelRun0_B.sl.HS1_12 (F := Ideal) c arg2 harg2 arg3 harg3 arg5 harg5 arg6 harg6 arg9 harg9 arg10 x0 x1 x3 x4 xs0) :=
    h10.cons inb_S64x64x256_S4x64x256_40_0_0 (k0_pay190 (kernelRun0_B.sl.r_83 (F := Ideal) c arg2 harg2 arg3 harg3 arg5 harg5 arg6 harg6 arg9 harg9 arg10 x0 x1 x3 x4 xs0) (kernelRun0_B.sl.r_84 (F := Ideal) c arg2 harg2 arg3 harg3 arg6 harg6 x0 x1 x4) (kernelRun0_B.sl.r_85 (F := Ideal) c arg2 harg2 arg3 harg3 arg5 harg5 arg6 harg6 arg9 harg9 arg10 x0 x1 x3 x4 xs0) (kernelRun0_B.sl.v1548 (F := Ideal) c arg9 harg9 xs0)) rfl
      (fun x => (congrFun (grp10_eq (kernelRun0_B.sl.r_24 (F := Ideal) c arg2 harg2 arg3 harg3 arg6 harg6 x0 x1 x4) (kernelRun0_B.sl.v1458 (F := Ideal) c arg2 harg2 arg3 harg3 arg5 harg5 arg6 harg6 arg9 harg9 arg10 x0 x1 x3 x4 xs0) (kernelRun0_B.sl.v1548 (F := Ideal) c arg9 harg9 xs0)) x).trans (grpOut_val 40 ar vr cr (kernelRun0_B.sl.r_24 (F := Ideal) c arg2 harg2 arg3 harg3 arg6 harg6 x0 x1 x4) _ xs0 ha hV hc slices_S64x256_o40_0_S4x256 inb_S64x64x256_S4x64x256_40_0_0 inb_S64x64x1_S4x64x1_40_0_0 _ v10 _ c10 (by decide) x))
  have k11 := k10.cons inb_S64x64x1_S4x64x1_40_0_0 (k0_pay191 (kernelRun0_B.sl.r_83 (F := Ideal) c arg2 harg2 arg3 harg3 arg5 harg5 arg6 harg6 arg9 harg9 arg10 x0 x1 x3 x4 xs0) (kernelRun0_B.sl.r_84 (F := Ideal) c arg2 harg2 arg3 harg3 arg6 harg6 x0 x1 x4) (kernelRun0_B.sl.r_85 (F := Ideal) c arg2 harg2 arg3 harg3 arg5 harg5 arg6 harg6 arg9 harg9 arg10 x0 x1 x3 x4 xs0) (kernelRun0_B.sl.v1548 (F := Ideal) c arg9 harg9 xs0)) (rfl : _ = 44)
      (fun x => (congrFun (carry10_eq (kernelRun0_B.sl.r_24 (F := Ideal) c arg2 harg2 arg3 harg3 arg6 harg6 x0 x1 x4) (kernelRun0_B.sl.v1458 (F := Ideal) c arg2 harg2 arg3 harg3 arg5 harg5 arg6 harg6 arg9 harg9 arg10 x0 x1 x3 x4 xs0) (kernelRun0_B.sl.v1548 (F := Ideal) c arg9 harg9 xs0)) x).trans (grpCarry_val 40 ar vr cr (kernelRun0_B.sl.r_24 (F := Ideal) c arg2 harg2 arg3 harg3 arg6 harg6 x0 x1 x4) _ xs0 ha hV hc slices_S64x256_o40_0_S4x256 inb_S64x64x256_S4x64x256_40_0_0 inb_S64x64x1_S4x64x1_40_0_0 _ v10 _ c10 (by decide) x))
  have v11 : (kernelRun0_B.sl.v1562 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![44, 0, 0] (Sg 256).size inb_S64x64x256_S4x64x256_44_0_0) :=
    h11.read arg10.view inb_S64x64x256_S4x64x256_44_0_0
  have c11 : (kernelRun0_B.sl.v1652 (F := Ideal) c arg9 harg9 xs0) = View.ld (Val := Elt Ideal) (e' := .f32) xs0 (Rect.unit (s := Sh 1) ![44, 0, 0] (Sg 1).size inb_S64x64x1_S4x64x1_44_0_0) :=
    congrArg (fun X => View.ld X (Rect.unit (s := Sh 1) ![44, 0, 0] (Sg 1).size inb_S64x64x1_S4x64x1_44_0_0)) (harg9.read_unread xs0)
  have h12 : Upto (Mem ar vr cr) (written x4 (k0_pay4 x0 x1) (k0_pay5 x0 x3)) 48 (kernelRun0_B.sl.HS1_13 (F := Ideal) c arg2 harg2 arg3 harg3 arg5 harg5 arg6 harg6 arg9 harg9 arg10 x0 x1 x3 x4 xs0) :=
    h11.cons inb_S64x64x256_S4x64x256_44_0_0 (k0_pay203 (kernelRun0_B.sl.r_88 (F := Ideal) c arg2 harg2 arg3 harg3 arg5 harg5 arg6 harg6 arg9 harg9 arg10 x0 x1 x3 x4 xs0) (kernelRun0_B.sl.r_89 (F := Ideal) c arg2 harg2 arg3 harg3 arg6 harg6 x0 x1 x4) k0_pay200 (kernelRun0_B.sl.r_90 (F := Ideal) c arg2 harg2 arg3 harg3 arg5 harg5 arg6 harg6 arg9 harg9 arg10 x0 x1 x3 x4 xs0) (kernelRun0_B.sl.v1652 (F := Ideal) c arg9 harg9 xs0)) rfl
      (fun x => (congrFun (grp11_eq (kernelRun0_B.sl.r_24 (F := Ideal) c arg2 harg2 arg3 harg3 arg6 harg6 x0 x1 x4) (kernelRun0_B.sl.v1562 (F := Ideal) c arg2 harg2 arg3 harg3 arg5 harg5 arg6 harg6 arg9 harg9 arg10 x0 x1 x3 x4 xs0) (kernelRun0_B.sl.v1652 (F := Ideal) c arg9 harg9 xs0)) x).trans (grpOut_val 44 ar vr cr (kernelRun0_B.sl.r_24 (F := Ideal) c arg2 harg2 arg3 harg3 arg6 harg6 x0 x1 x4) _ xs0 ha hV hc slices_S64x256_o44_0_S4x256 inb_S64x64x256_S4x64x256_44_0_0 inb_S64x64x1_S4x64x1_44_0_0 _ v11 _ c11 (by decide) x))
  have k12 := k11.cons inb_S64x64x1_S4x64x1_44_0_0 ((kernelRun0_B.sl.r_91 (F := Ideal) c arg2 harg2 arg3 harg3 arg5 harg5 arg6 harg6 arg9 harg9 arg10 x0 x1 x3 x4 xs0)) (rfl : _ = 48)
      (fun x => (congrFun (carry11_eq (kernelRun0_B.sl.r_24 (F := Ideal) c arg2 harg2 arg3 harg3 arg6 harg6 x0 x1 x4) (kernelRun0_B.sl.v1562 (F := Ideal) c arg2 harg2 arg3 harg3 arg5 harg5 arg6 harg6 arg9 harg9 arg10 x0 x1 x3 x4 xs0) (kernelRun0_B.sl.v1652 (F := Ideal) c arg9 harg9 xs0)) x).trans (grpCarry_val 44 ar vr cr (kernelRun0_B.sl.r_24 (F := Ideal) c arg2 harg2 arg3 harg3 arg6 harg6 x0 x1 x4) _ xs0 ha hV hc slices_S64x256_o44_0_S4x256 inb_S64x64x256_S4x64x256_44_0_0 inb_S64x64x1_S4x64x1_44_0_0 _ v11 _ c11 (by decide) x))
  have v12 : (kernelRun0_B.sl.v1666 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![48, 0, 0] (Sg 256).size inb_S64x64x256_S4x64x256_48_0_0) :=
    h12.read arg10.view inb_S64x64x256_S4x64x256_48_0_0
  have c12 : (kernelRun0_B.sl.v1756 (F := Ideal) c arg9 harg9 xs0) = View.ld (Val := Elt Ideal) (e' := .f32) xs0 (Rect.unit (s := Sh 1) ![48, 0, 0] (Sg 1).size inb_S64x64x1_S4x64x1_48_0_0) :=
    congrArg (fun X => View.ld X (Rect.unit (s := Sh 1) ![48, 0, 0] (Sg 1).size inb_S64x64x1_S4x64x1_48_0_0)) (harg9.read_unread xs0)
  have h13 : Upto (Mem ar vr cr) (written x4 (k0_pay4 x0 x1) (k0_pay5 x0 x3)) 52 (kernelRun0_B.sl.HS1_14 (F := Ideal) c arg2 harg2 arg3 harg3 arg5 harg5 arg6 harg6 arg9 harg9 arg10 x0 x1 x3 x4 xs0) :=
    h12.cons inb_S64x64x256_S4x64x256_48_0_0 (k0_pay213 (kernelRun0_B.sl.r_94 (F := Ideal) c arg2 harg2 arg3 harg3 arg5 harg5 arg6 harg6 arg9 harg9 arg10 x0 x1 x3 x4 xs0)) rfl
      (fun x => (congrFun (grp12_eq (kernelRun0_B.sl.r_24 (F := Ideal) c arg2 harg2 arg3 harg3 arg6 harg6 x0 x1 x4) (kernelRun0_B.sl.v1666 (F := Ideal) c arg2 harg2 arg3 harg3 arg5 harg5 arg6 harg6 arg9 harg9 arg10 x0 x1 x3 x4 xs0) (kernelRun0_B.sl.v1756 (F := Ideal) c arg9 harg9 xs0)) x).trans (grpOut_val 48 ar vr cr (kernelRun0_B.sl.r_24 (F := Ideal) c arg2 harg2 arg3 harg3 arg6 harg6 x0 x1 x4) _ xs0 ha hV hc slices_S64x256_o48_0_S4x256 inb_S64x64x256_S4x64x256_48_0_0 inb_S64x64x1_S4x64x1_48_0_0 _ v12 _ c12 (by decide) x))
  have k13 := k12.cons inb_S64x64x1_S4x64x1_48_0_0 (k0_pay214 (kernelRun0_B.sl.r_94 (F := Ideal) c arg2 harg2 arg3 harg3 arg5 harg5 arg6 harg6 arg9 harg9 arg10 x0 x1 x3 x4 xs0)) (rfl : _ = 52)
      (fun x => (congrFun (carry12_eq (kernelRun0_B.sl.r_24 (F := Ideal) c arg2 harg2 arg3 harg3 arg6 harg6 x0 x1 x4) (kernelRun0_B.sl.v1666 (F := Ideal) c arg2 harg2 arg3 harg3 arg5 harg5 arg6 harg6 arg9 harg9 arg10 x0 x1 x3 x4 xs0) (kernelRun0_B.sl.v1756 (F := Ideal) c arg9 harg9 xs0)) x).trans (grpCarry_val 48 ar vr cr (kernelRun0_B.sl.r_24 (F := Ideal) c arg2 harg2 arg3 harg3 arg6 harg6 x0 x1 x4) _ xs0 ha hV hc slices_S64x256_o48_0_S4x256 inb_S64x64x256_S4x64x256_48_0_0 inb_S64x64x1_S4x64x1_48_0_0 _ v12 _ c12 (by decide) x))
  have v13 : (kernelRun0_B.sl.v1770 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![52, 0, 0] (Sg 256).size inb_S64x64x256_S4x64x256_52_0_0) :=
    h13.read arg10.view inb_S64x64x256_S4x64x256_52_0_0
  have c13 : (kernelRun0_B.sl.v1860 (F := Ideal) c arg9 harg9 xs0) = View.ld (Val := Elt Ideal) (e' := .f32) xs0 (Rect.unit (s := Sh 1) ![52, 0, 0] (Sg 1).size inb_S64x64x1_S4x64x1_52_0_0) :=
    congrArg (fun X => View.ld X (Rect.unit (s := Sh 1) ![52, 0, 0] (Sg 1).size inb_S64x64x1_S4x64x1_52_0_0)) (harg9.read_unread xs0)
  have h14 : Upto (Mem ar vr cr) (written x4 (k0_pay4 x0 x1) (k0_pay5 x0 x3)) 56 (kernelRun0_B.sl.HS1_15 (F := Ideal) c arg2 harg2 arg3 harg3 arg5 harg5 arg6 harg6 arg9 harg9 arg10 x0 x1 x3 x4 xs0) :=
    h13.cons inb_S64x64x256_S4x64x256_52_0_0 (k0_pay226 (kernelRun0_B.sl.r_97 (F := Ideal) c arg2 harg2 arg3 harg3 arg6 harg6 x0 x1 x4) (kernelRun0_B.sl.r_98 (F := Ideal) c arg2 harg2 arg3 harg3 arg5 harg5 arg6 harg6 arg9 harg9 arg10 x0 x1 x3 x4 xs0) (kernelRun0_B.sl.cst_131 (F := Ideal)) (kernelRun0_B.sl.v1860 (F := Ideal) c arg9 harg9 xs0)) rfl
      (fun x => (congrFun (grp13_eq (kernelRun0_B.sl.r_24 (F := Ideal) c arg2 harg2 arg3 harg3 arg6 harg6 x0 x1 x4) (kernelRun0_B.sl.v1770 (F := Ideal) c arg2 harg2 arg3 harg3 arg5 harg5 arg6 harg6 arg9 harg9 arg10 x0 x1 x3 x4 xs0) (kernelRun0_B.sl.v1860 (F := Ideal) c arg9 harg9 xs0)) x).trans (grpOut_val 52 ar vr cr (kernelRun0_B.sl.r_24 (F := Ideal) c arg2 harg2 arg3 harg3 arg6 harg6 x0 x1 x4) _ xs0 ha hV hc slices_S64x256_o52_0_S4x256 inb_S64x64x256_S4x64x256_52_0_0 inb_S64x64x1_S4x64x1_52_0_0 _ v13 _ c13 (by decide) x))
  have k14 := k13.cons inb_S64x64x1_S4x64x1_52_0_0 (k0_pay227 (kernelRun0_B.sl.r_97 (F := Ideal) c arg2 harg2 arg3 harg3 arg6 harg6 x0 x1 x4) (kernelRun0_B.sl.r_98 (F := Ideal) c arg2 harg2 arg3 harg3 arg5 harg5 arg6 harg6 arg9 harg9 arg10 x0 x1 x3 x4 xs0) (kernelRun0_B.sl.cst_131 (F := Ideal)) (kernelRun0_B.sl.v1860 (F := Ideal) c arg9 harg9 xs0)) (rfl : _ = 56)
      (fun x => (congrFun (carry13_eq (kernelRun0_B.sl.r_24 (F := Ideal) c arg2 harg2 arg3 harg3 arg6 harg6 x0 x1 x4) (kernelRun0_B.sl.v1770 (F := Ideal) c arg2 harg2 arg3 harg3 arg5 harg5 arg6 harg6 arg9 harg9 arg10 x0 x1 x3 x4 xs0) (kernelRun0_B.sl.v1860 (F := Ideal) c arg9 harg9 xs0)) x).trans (grpCarry_val 52 ar vr cr (kernelRun0_B.sl.r_24 (F := Ideal) c arg2 harg2 arg3 harg3 arg6 harg6 x0 x1 x4) _ xs0 ha hV hc slices_S64x256_o52_0_S4x256 inb_S64x64x256_S4x64x256_52_0_0 inb_S64x64x1_S4x64x1_52_0_0 _ v13 _ c13 (by decide) x))
  have v14 : (kernelRun0_B.sl.v1874 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![56, 0, 0] (Sg 256).size inb_S64x64x256_S4x64x256_56_0_0) :=
    h14.read arg10.view inb_S64x64x256_S4x64x256_56_0_0
  have c14 : (kernelRun0_B.sl.v1964 (F := Ideal) c arg9 harg9 xs0) = View.ld (Val := Elt Ideal) (e' := .f32) xs0 (Rect.unit (s := Sh 1) ![56, 0, 0] (Sg 1).size inb_S64x64x1_S4x64x1_56_0_0) :=
    congrArg (fun X => View.ld X (Rect.unit (s := Sh 1) ![56, 0, 0] (Sg 1).size inb_S64x64x1_S4x64x1_56_0_0)) (harg9.read_unread xs0)
  have h15 : Upto (Mem ar vr cr) (written x4 (k0_pay4 x0 x1) (k0_pay5 x0 x3)) 60 (kernelRun0_B.sl.HS1_16 (F := Ideal) c arg2 harg2 arg3 harg3 arg5 harg5 arg6 harg6 arg9 harg9 arg10 x0 x1 x3 x4 xs0) :=
    h14.cons inb_S64x64x256_S4x64x256_56_0_0 (k0_pay238 (kernelRun0_B.sl.r_101 (F := Ideal) c arg2 harg2 arg3 harg3 arg6 harg6 x0 x1 x4) (kernelRun0_B.sl.r_102 (F := Ideal) c arg2 harg2 arg3 harg3 arg5 harg5 arg6 harg6 arg9 harg9 arg10 x0 x1 x3 x4 xs0) (kernelRun0_B.sl.v1964 (F := Ideal) c arg9 harg9 xs0)) rfl
      (fun x => (congrFun (grp14_eq (kernelRun0_B.sl.r_24 (F := Ideal) c arg2 harg2 arg3 harg3 arg6 harg6 x0 x1 x4) (kernelRun0_B.sl.v1874 (F := Ideal) c arg2 harg2 arg3 harg3 arg5 harg5 arg6 harg6 arg9 harg9 arg10 x0 x1 x3 x4 xs0) (kernelRun0_B.sl.v1964 (F := Ideal) c arg9 harg9 xs0)) x).trans (grpOut_val 56 ar vr cr (kernelRun0_B.sl.r_24 (F := Ideal) c arg2 harg2 arg3 harg3 arg6 harg6 x0 x1 x4) _ xs0 ha hV hc slices_S64x256_o56_0_S4x256 inb_S64x64x256_S4x64x256_56_0_0 inb_S64x64x1_S4x64x1_56_0_0 _ v14 _ c14 (by decide) x))
  have k15 := k14.cons inb_S64x64x1_S4x64x1_56_0_0 (k0_pay239 (kernelRun0_B.sl.r_101 (F := Ideal) c arg2 harg2 arg3 harg3 arg6 harg6 x0 x1 x4) (kernelRun0_B.sl.r_102 (F := Ideal) c arg2 harg2 arg3 harg3 arg5 harg5 arg6 harg6 arg9 harg9 arg10 x0 x1 x3 x4 xs0) (kernelRun0_B.sl.v1964 (F := Ideal) c arg9 harg9 xs0)) (rfl : _ = 60)
      (fun x => (congrFun (carry14_eq (kernelRun0_B.sl.r_24 (F := Ideal) c arg2 harg2 arg3 harg3 arg6 harg6 x0 x1 x4) (kernelRun0_B.sl.v1874 (F := Ideal) c arg2 harg2 arg3 harg3 arg5 harg5 arg6 harg6 arg9 harg9 arg10 x0 x1 x3 x4 xs0) (kernelRun0_B.sl.v1964 (F := Ideal) c arg9 harg9 xs0)) x).trans (grpCarry_val 56 ar vr cr (kernelRun0_B.sl.r_24 (F := Ideal) c arg2 harg2 arg3 harg3 arg6 harg6 x0 x1 x4) _ xs0 ha hV hc slices_S64x256_o56_0_S4x256 inb_S64x64x256_S4x64x256_56_0_0 inb_S64x64x1_S4x64x1_56_0_0 _ v14 _ c14 (by decide) x))
  have v15 : (kernelRun0_B.sl.v1978 (F := Ideal) c arg2 harg2 arg3 harg3 arg5 harg5 arg6 harg6 arg9 harg9 arg10 x0 x1 x3 x4 xs0) = View.ld (Val := Elt Ideal) (e' := .f32) (written x4 (k0_pay4 x0 x1) (k0_pay5 x0 x3)) (Rect.unit (s := Sh 256) ![60, 0, 0] (Sg 256).size inb_S64x64x256_S4x64x256_60_0_0) :=
    h15.read arg10.view inb_S64x64x256_S4x64x256_60_0_0
  have c15 : (kernelRun0_B.sl.v2068 (F := Ideal) c arg9 harg9 xs0) = View.ld (Val := Elt Ideal) (e' := .f32) xs0 (Rect.unit (s := Sh 1) ![60, 0, 0] (Sg 1).size inb_S64x64x1_S4x64x1_60_0_0) :=
    congrArg (fun X => View.ld X (Rect.unit (s := Sh 1) ![60, 0, 0] (Sg 1).size inb_S64x64x1_S4x64x1_60_0_0)) (harg9.read_unread xs0)
  have h16 : Upto (Mem ar vr cr) (written x4 (k0_pay4 x0 x1) (k0_pay5 x0 x3)) 64 (kernelRun0_B.sl.HS1_17 (F := Ideal) c arg2 harg2 arg3 harg3 arg5 harg5 arg6 harg6 arg9 harg9 arg10 x0 x1 x3 x4 xs0) :=
    h15.cons inb_S64x64x256_S4x64x256_60_0_0 (k0_pay251 (kernelRun0_B.sl.r_106 (F := Ideal) c arg2 harg2 arg3 harg3 arg5 harg5 arg6 harg6 arg9 harg9 arg10 x0 x1 x3 x4 xs0) (kernelRun0_B.sl.r_107 (F := Ideal) c arg2 harg2 arg3 harg3 arg6 harg6 x0 x1 x4) (kernelRun0_B.sl.r_108 (F := Ideal) c arg2 harg2 arg3 harg3 arg5 harg5 arg6 harg6 arg9 harg9 arg10 x0 x1 x3 x4 xs0) (kernelRun0_B.sl.v2068 (F := Ideal) c arg9 harg9 xs0)) rfl
      (fun x => (congrFun (grp15_eq (kernelRun0_B.sl.r_24 (F := Ideal) c arg2 harg2 arg3 harg3 arg6 harg6 x0 x1 x4) (kernelRun0_B.sl.v1978 (F := Ideal) c arg2 harg2 arg3 harg3 arg5 harg5 arg6 harg6 arg9 harg9 arg10 x0 x1 x3 x4 xs0) (kernelRun0_B.sl.v2068 (F := Ideal) c arg9 harg9 xs0)) x).trans (grpOut_val 60 ar vr cr (kernelRun0_B.sl.r_24 (F := Ideal) c arg2 harg2 arg3 harg3 arg6 harg6 x0 x1 x4) _ xs0 ha hV hc slices_S64x256_o60_0_S4x256 inb_S64x64x256_S4x64x256_60_0_0 inb_S64x64x1_S4x64x1_60_0_0 _ v15 _ c15 (by decide) x))
  have k16 := k15.cons inb_S64x64x1_S4x64x1_60_0_0 (k0_pay252 (kernelRun0_B.sl.r_106 (F := Ideal) c arg2 harg2 arg3 harg3 arg5 harg5 arg6 harg6 arg9 harg9 arg10 x0 x1 x3 x4 xs0) (kernelRun0_B.sl.r_107 (F := Ideal) c arg2 harg2 arg3 harg3 arg6 harg6 x0 x1 x4) (kernelRun0_B.sl.r_108 (F := Ideal) c arg2 harg2 arg3 harg3 arg5 harg5 arg6 harg6 arg9 harg9 arg10 x0 x1 x3 x4 xs0) (kernelRun0_B.sl.v2068 (F := Ideal) c arg9 harg9 xs0)) (rfl : _ = 64)
      (fun x => (congrFun (carry15_eq (kernelRun0_B.sl.r_24 (F := Ideal) c arg2 harg2 arg3 harg3 arg6 harg6 x0 x1 x4) (kernelRun0_B.sl.v1978 (F := Ideal) c arg2 harg2 arg3 harg3 arg5 harg5 arg6 harg6 arg9 harg9 arg10 x0 x1 x3 x4 xs0) (kernelRun0_B.sl.v2068 (F := Ideal) c arg9 harg9 xs0)) x).trans (grpCarry_val 60 ar vr cr (kernelRun0_B.sl.r_24 (F := Ideal) c arg2 harg2 arg3 harg3 arg6 harg6 x0 x1 x4) _ xs0 ha hV hc slices_S64x256_o60_0_S4x256 inb_S64x64x256_S4x64x256_60_0_0 inb_S64x64x1_S4x64x1_60_0_0 _ v15 _ c15 (by decide) x))
  exact ⟨h16, k16⟩

theorem outB (hA : ∀ l t, decay x4 (k0_pay4 x0 x1) (ix2 l t) = ((ar l t.val : ℝ) : EReal))
    (hV : ∀ l r t, written x4 (k0_pay4 x0 x1) (k0_pay5 x0 x3) (ix3 l r t) = ((vr l r t.val : ℝ) : EReal))
    (hc : ∀ l r, xs0 (ix3 l r 0) = ((cr l r : ℝ) : EReal)) :
    out0_B_6 (F := Ideal) c i arg2 harg2 arg3 harg3 arg4 harg4 arg5 harg5 arg6 harg6 arg7 harg7 arg8 harg8 arg9 harg9 arg10 harg10 hc0 x0 x1 x2 x3 x4 x5 xs0 =
      k0_pay1 (reads x4 (k0_pay6 x0 x2) (Mem ar vr cr)) x5 := by
  have hM : (kernelRun0_B.sl.v2082 (F := Ideal) c arg2 harg2 arg3 harg3 arg5 harg5 arg6 harg6 arg9 harg9 arg10 x0 x1 x3 x4 xs0) = Mem ar vr cr := by
    unfold kernelRun0_B.sl.v2082
    rw [View.readCov_eq_canon', (bufsB c i arg2 harg2 arg3 harg3 arg4 harg4 arg5 harg5 arg6 harg6 arg7 harg7 arg8 harg8 arg9 harg9 arg10 harg10 hc0 x0 x1 x2 x3 x4 x5 xs0 ar vr cr hA hV hc).1.all]
    exact View.ld_unit_lit' inb_S64x64x256_S64x64x256_0_0_0 (Mem ar vr cr) (by decide)
  have hR : (kernelRun0_B.sl.r_118 (F := Ideal) c arg2 harg2 arg3 harg3 arg4 harg4 arg5 harg5 arg6 harg6 arg9 harg9 arg10 x0 x1 x2 x3 x4 xs0) = reads x4 (k0_pay6 x0 x2) (Mem ar vr cr) := by
    have e : (kernelRun0_B.sl.r_118 (F := Ideal) c arg2 harg2 arg3 harg3 arg4 harg4 arg5 harg5 arg6 harg6 arg9 harg9 arg10 x0 x1 x2 x3 x4 xs0) = reads (kernelRun0_B.sl.r (F := Ideal) c arg6 harg6 x4) (kernelRun0_B.sl.r_3 (F := Ideal) c arg2 harg2 arg4 harg4 x0 x2) (kernelRun0_B.sl.v2082 (F := Ideal) c arg2 harg2 arg3 harg3 arg5 harg5 arg6 harg6 arg9 harg9 arg10 x0 x1 x3 x4 xs0) := rfl
    rw [e, r_eqB, r_3_eqB, hM]
  unfold out0_B_6
  rw [View.read_writes_junk_eq_canon]
  have e : (kernelRun0_B (F := Ideal) c i arg2 harg2 arg3 harg3 arg4 harg4 arg5 harg5 arg6 harg6 arg7 harg7 arg8 harg8 arg9 harg9 arg10 harg10 hc0 x0 x1 x2 x3 x4 x5 xs0).1 = [⟨Rect.unit (s := S1x256x1024) ![0, 0, 0] S1x256x1024.size inb_S1x256x1024_S1x256x1024_0_0_0,
      k0_pay1 (kernelRun0_B.sl.r_118 (F := Ideal) c arg2 harg2 arg3 harg3 arg4 harg4 arg5 harg5 arg6 harg6 arg9 harg9 arg10 x0 x1 x2 x3 x4 xs0) (View.readAt (Elt Ideal) arg7.view (Rect.unit (s := S512x1024) ![0, 0] S512x1024.size inb_S512x1024_S512x1024_0_0).toLoadRect (harg7.unread x5))⟩] := rfl
  rw [e, hR, View.canon_cons_unit_lit' _ _ _ (by decide)]
  simp (disch := decide) only [View.readAt_eq_ld, View.ld_unit_lit', Memref.IsWhole.read_unread]

theorem soutB (hA : ∀ l t, decay x4 (k0_pay4 x0 x1) (ix2 l t) = ((ar l t.val : ℝ) : EReal))
    (hV : ∀ l r t, written x4 (k0_pay4 x0 x1) (k0_pay5 x0 x3) (ix3 l r t) = ((vr l r t.val : ℝ) : EReal))
    (hc : ∀ l r, xs0 (ix3 l r 0) = ((cr l r : ℝ) : EReal)) :
    sout0_B_0 (F := Ideal) c i arg2 harg2 arg3 harg3 arg4 harg4 arg5 harg5 arg6 harg6 arg7 harg7 arg8 harg8 arg9 harg9 arg10 harg10 hc0 x0 x1 x2 x3 x4 x5 xs0 =
      Last ar vr cr := by
  unfold sout0_B_0
  rw [View.read_writes_junk_eq_canon]
  exact (bufsB c i arg2 harg2 arg3 harg3 arg4 harg4 arg5 harg5 arg6 harg6 arg7 harg7 arg8 harg8 arg9 harg9 arg10 harg10 hc0 x0 x1 x2 x3 x4 x5 xs0 ar vr cr hA hV hc).2.all

end

end Cert.KernelIdeal.Body
-- ==== Proof.Points.lean ====
module

public import proofs.«01_k».proof.Proof.Blocks
public import proofs.«01_k».proof.Proof.CaseA
public import proofs.«01_k».proof.Proof.CaseB

@[expose] public section

set_option maxRecDepth 16384

noncomputable section

namespace Cert.KernelIdeal.Body

open Cert.KernelIdeal Cert.KernelIdeal.Gen Cert.Barrel
open Idealize.ShloMosaic Idealize.ShloMosaic.TcCoe Idealize.ShloMosaic.Tactic Idealize.SL.Sem

section
variable (m : (ℓ : Loc nD τ sig) → Buf (Elt Ideal) ℓ) (c : Dev nD)
  (ar : Fin 4 → Fin 64 → ℕ → ℝ) (vr : Fin 4 → Fin 64 → Fin 64 → ℕ → ℝ)

/-- A block's decays. -/
def blkA (k : ℕ) : Fin 64 → ℕ → ℝ := fun l u => ar (rowOf k) l (256 * (k % 16) + u)
/-- What a block writes. -/
def blkV (k : ℕ) : Fin 64 → Fin 64 → ℕ → ℝ := fun l r u => vr (rowOf k) l r (256 * (k % 16) + u)
/-- The memory after a position of a block. -/
def memAt (k u : ℕ) : Fin 64 → Fin 64 → ℝ := fun l r => C (ar (rowOf k) l) (vr (rowOf k) l r) 0 (256 * (k % 16) + u)

theorem blk_first (k : ℕ) (h : k % 16 = 0) (l r : Fin 64) (u : ℕ) :
    C (blkA ar k l) (blkV vr k l r) 0 u = memAt ar vr k u l r := C_first _ _ _ _ h

theorem blk_next (k : ℕ) (h : ¬(k + 1) % 16 = 0) (l r : Fin 64) (u : ℕ) :
    C (blkA ar (k + 1) l) (blkV vr (k + 1) l r) (memAt ar vr k 255 l r) u = memAt ar vr (k + 1) u l r := by
  have e : rowOf k = rowOf (k + 1) := by
    apply Fin.ext
    simp only [rowOf]
    omega
  unfold memAt
  rw [e]
  exact C_next _ _ _ _ _ (by omega)

variable (hg : ∀ n l k, gat (fK (L1 m c)) (fW (L2 m c)) (fX (L0 m c)) n l k = ((ar n l k : ℝ) : EReal))
  (hw : ∀ n l r k, wrt (fK (L1 m c)) (fW (L2 m c)) (fW (L4 m c)) (fX (L0 m c)) n l r k = ((vr n l r k : ℝ) : EReal))
include hg hw

theorem mem_at (k : ℕ) (M : Vec Ideal S64x64x256 .f32) (hM : ∀ l r (u : Fin 256), M (ix3 l r u) = ((memAt ar vr k u.val l r : ℝ) : EReal))
    (l r : Fin 64) (u : Fin 256) :
    M (ix3 l r u) = mem (gat (fK (L1 m c)) (fW (L2 m c)) (fX (L0 m c)) (rowOf k) l)
      (wrt (fK (L1 m c)) (fW (L2 m c)) (fW (L4 m c)) (fX (L0 m c)) (rowOf k) l r) 0 (256 * (k % 16) + u.val + 1) := by
  rw [hM, memAt, ← mem_C, ← funext (hg (rowOf k) l), ← funext (hw (rowOf k) l r)]
  rfl

/-- What every point leaves: the stored block, and the memory carried on. -/
theorem point : ∀ (k : ℕ) (hk : k < cfg0.N),
    (∀ (u : Fin 256) (e : Fin 1024), (outsAt0 m c k hk).1 (ix3 0 u e) =
      res (fK (L1 m c)) (fW (L2 m c)) (fW (L3 m c)) (fW (L4 m c)) (fO (L5 m c)) (fX (L0 m c)) (rowOf k)
        (pos (256 * (k % 16) + u.val)) e) ∧
    (∀ l r : Fin 64, (outsAt0 m c k hk).2 (ix3 l r 0) = ((memAt ar vr k 255 l r : ℝ) : EReal)) := by
  have hA : ∀ (t : Fin cfg0.N) (l : Fin 64) (u : Fin 256),
      decay (iblk m c 4 t) (k0_pay4 (iblk m c 0 t) (iblk m c 1 t)) (ix2 l u) = ((blkA ar t.val l u.val : ℝ) : EReal) :=
    fun t l u => (decay_pt m c t l u).trans (hg _ _ _)
  have hV : ∀ (t : Fin cfg0.N) (l r : Fin 64) (u : Fin 256),
      written (iblk m c 4 t) (k0_pay4 (iblk m c 0 t) (iblk m c 1 t)) (k0_pay5 (iblk m c 0 t) (iblk m c 3 t)) (ix3 l r u) =
        ((blkV vr t.val l r u.val : ℝ) : EReal) := fun t l r u => (written_pt m c t l r u).trans (hw _ _ _ _)
  have first : ∀ (t : Fin cfg0.N) (h0 : t.val % 16 = 0),
      (∀ (u : Fin 256) (e : Fin 1024), (outsAt0 m c t.val t.isLt).1 (ix3 0 u e) =
        res (fK (L1 m c)) (fW (L2 m c)) (fW (L3 m c)) (fW (L4 m c)) (fO (L5 m c)) (fX (L0 m c)) (rowOf t.val)
          (pos (256 * (t.val % 16) + u.val)) e) ∧
      (∀ l r : Fin 64, (outsAt0 m c t.val t.isLt).2 (ix3 l r 0) = ((memAt ar vr t.val 255 l r : ℝ) : EReal)) := by
    intro t h0
    rw [outsAt0_A m c t h0]
    dsimp only
    rw [outA (hA := hA t) (hV := hV t), soutA (hA := hA t) (hV := hV t)]
    refine ⟨fun u e => store_pt m c t _ u e fun l r => mem_at m c ar vr hg hw t.val _ (fun l r u => ?_) l r u, fun l r => ?_⟩
    · exact congrArg Real.toEReal (blk_first ar vr t.val h0 l r u.val)
    · exact congrArg Real.toEReal (blk_first ar vr t.val h0 l r 255)
  intro k
  induction k with
  | zero => exact fun hk => first ⟨0, hk⟩ rfl
  | succ k ih =>
    intro hk
    by_cases h0 : (k + 1) % 16 = 0
    · exact first ⟨k + 1, hk⟩ h0
    · have hc : ∀ l r : Fin 64, (outsAt0 m c (k + 1 - 1) (Nat.lt_of_succ_lt hk)).2 (ix3 l r 0) = ((memAt ar vr k 255 l r : ℝ) : EReal) :=
        (ih (Nat.lt_of_succ_lt hk)).2
      have e := outsAt0_B m c ⟨k + 1, hk⟩ h0
      dsimp only at e
      rw [e]
      dsimp only
      rw [outB (hA := hA ⟨k + 1, hk⟩) (hV := hV ⟨k + 1, hk⟩) (hc := hc),
        soutB (hA := hA ⟨k + 1, hk⟩) (hV := hV ⟨k + 1, hk⟩) (hc := hc)]
      refine ⟨fun u e => store_pt m c ⟨k + 1, hk⟩ _ u e fun l r =>
        mem_at m c ar vr hg hw (k + 1) _ (fun l r u => ?_) l r u, fun l r => ?_⟩
      · exact congrArg Real.toEReal (blk_next ar vr k h0 l r u.val)
      · exact congrArg Real.toEReal (blk_next ar vr k h0 l r 255)

/-- What the kernel computes. -/
theorem ker_at (n : Fin 4) (s : Fin 4096) (e : Fin 1024) :
    (Value.G6 m c : FVec Ideal S4x4096x1024 .f32) (ix3 n s e) =
      res (fK (L1 m c)) (fW (L2 m c)) (fW (L3 m c)) (fW (L4 m c)) (fO (L5 m c)) (fX (L0 m c)) n s e := by
  have hn := n.isLt
  have hs := s.isLt
  have he := e.isLt
  have ept : Value.pt6Of (ix3 n s e) = 16 * n.val + s.val / 256 := by
    show 16 * (n.val / 1 - 0) + 1 * (s.val / 256 - 0) + 1 * (e.val / 1024 - 0) = _
    omega
  have hlt : Value.pt6Of (ix3 n s e) < cfg0.N := lt_of_lt_of_eq (by omega) N_0.symm
  have eloc : Value.loc6Of (ix3 n s e) = ix3 0 ⟨s.val % 256, Nat.mod_lt _ (by decide)⟩ e := by
    funext a
    apply Fin.ext
    match a with
    | ⟨0, _⟩ => exact Nat.mod_one _
    | ⟨1, _⟩ => rfl
    | ⟨2, _⟩ => exact Nat.mod_eq_of_lt he
  have h := (point m c ar vr hg hw _ hlt).1 ⟨s.val % 256, Nat.mod_lt _ (by decide)⟩ e
  rw [Value.outsAt0_sweep] at h
  have er : rowOf (Value.pt6Of (ix3 n s e)) = n := by
    apply Fin.ext
    simp only [rowOf]
    omega
  have ep : pos (256 * (Value.pt6Of (ix3 n s e) % 16) + s.val % 256) = s := by
    apply Fin.ext
    simp only [pos]
    omega
  rw [er, ep] at h
  unfold Value.G6
  rw [dif_pos hlt, eloc]
  exact h
end

end Cert.KernelIdeal.Body
-- ==== Proof.RefLoop.lean ====
module

public import proofs.«01_k».proof.Proof.Gen.ReferenceIdeal.Run
public import proofs.«01_k».proof.Proof.Weights

@[expose] public section

set_option maxRecDepth 16384

noncomputable section

namespace Cert.ReferenceIdeal.Value

open Cert.ReferenceIdeal Cert.ReferenceIdeal.Gen Cert.Barrel
open Idealize.ShloMosaic Idealize.ShloMosaic.TcCoe Idealize.ShloMosaic.Tactic
open Idealize.SL.Sem

/-! ## The reference's loop: the recurrence, one position per trip -/

/-- The loop counter, as the body adjusts it before it slices. -/
theorem at_counter (k : ℕ) (hk : k < 4096) :
    (select (cmpi .slt (fun _ => BitVec.ofNat 32 k : IVec S_ 32) (constantI S_ 32 0#32))
      (addi (id (fun _ => BitVec.ofNat 32 k : IVec S_ 32)) (constantI S_ 32 4096#32)) (fun _ => BitVec.ofNat 32 k)
        (Shape.Idx.first h_S_)).toInt = (k : ℤ) := by
  pointwise
  have h1 : (BitVec.ofNat 32 k).toInt = (k : ℤ) := by
    rw [BitVec.toInt_eq_toNat_of_lt (by simp; omega)]
    simp
    omega
  have h2 : IntOp.cmpi CmpIPredicate.slt (BitVec.ofNat 32 k) 0#32 = 0#1 := by
    have : ¬ ((k : ℤ) < 0) := by omega
    simp [IntOp.cmpi, BitVec.slt, h1, this]
  rw [h2]
  exact h1

/-- The decays, the values written, the memory and the memories kept, of the contents between trips. -/
abbrev carA (X : Valuation τ sig (Elt Ideal)) : FVec Ideal S4x64x4096 .f32 := X (Proc.devRef .tc main_v41_0)
@[inherit_doc carA] abbrev carV (X : Valuation τ sig (Elt Ideal)) : FVec Ideal S4x64x4096x64 .f32 := X (Proc.devRef .tc main_v41_1)
@[inherit_doc carA] abbrev carM (X : Valuation τ sig (Elt Ideal)) : FVec Ideal S4x64x64 .f32 := X (Proc.devRef .tc main_v41_4)
@[inherit_doc carA] abbrev carR (X : Valuation τ sig (Elt Ideal)) : FVec Ideal S4x64x4096x64 .f32 := X (Proc.devRef .tc main_v41_5)

theorem res_at (X : Valuation τ sig (Elt Ideal)) (k : ℕ) (hk : k < 4096)
    (h3 : X (Proc.devRef .tc main_v41_3) = (fun _ => BitVec.ofNat 32 k)) (n : Fin 4) (l r : Fin 64) :
    res_main_while0b_v68 (F := Ideal) X (ix3 n l r) =
      carA X (ix3 n l ⟨k, hk⟩) * carM X (ix3 n l r) + carV X (ix4 n l ⟨k, hk⟩ r) := by
  pointwise [res_main_while0b_v68]
  rw [h3]
  have z : ∀ (s t : Shape) (ht : t.rank = s.rank) (st : Fin s.rank → Int) (a : Fin s.rank), st a = 0 →
      t.size (a.cast ht.symm) ≤ s.size a → ∀ x : ℕ, Host.clampedStart s t ht st a + x = x := by
    intro s t ht st a h h' x
    rw [Host.clampedStart_of_le _ _ a 0 h (by omega), Nat.zero_add]
  have zk : ∀ (s t : Shape) (ht : t.rank = s.rank) (st : Fin s.rank → Int) (a : Fin s.rank), st a = k →
      k + t.size (a.cast ht.symm) ≤ s.size a → Host.clampedStart s t ht st a = k :=
    fun s t ht st a h h' => Host.clampedStart_of_le ht st a k h h'
  refine congrArg₂ (· + ·) (congrArg₂ (· * ·) (congrArg (carA X) ?_) rfl) (congrArg (carV X) ?_)
  · refine congr (congr (congrArg ix3 ?_) ?_) ?_
    · exact Fin.ext (z _ _ _ _ _ rfl (by decide) _)
    · exact Fin.ext (z _ _ _ _ _ rfl (by decide) _)
    · apply Fin.ext
      dsimp only
      refine zk _ _ _ _ 2 ?_ ?_
      · exact at_counter k hk
      · show k + 1 ≤ 4096
        omega
  · refine congr (congr (congr (congrArg ix4 ?_) ?_) ?_) ?_
    · exact Fin.ext (z _ _ _ _ _ rfl (by decide) _)
    · exact Fin.ext (z _ _ _ _ _ rfl (by decide) _)
    · apply Fin.ext
      dsimp only
      refine zk _ _ _ _ 2 ?_ ?_
      · exact at_counter k hk
      · show k + 1 ≤ 4096
        omega
    · exact Fin.ext (z _ _ _ _ _ rfl (by decide) _)

theorem upd_at (X : Valuation τ sig (Elt Ideal)) (k : ℕ) (hk : k < 4096)
    (h3 : X (Proc.devRef .tc main_v41_3) = (fun _ => BitVec.ofNat 32 k)) (n : Fin 4) (l : Fin 64) (t : Fin 4096) (r : Fin 64) :
    step_main_v41_5 (F := Ideal) X (ix4 n l t r) =
      if t.val = k then res_main_while0b_v68 (F := Ideal) X (ix3 n l r) else X (Proc.devRef .tc main_v41_5) (ix4 n l t r) := by
  unfold step_main_v41_5
  rw [h3]
  show Host.dynamicUpdateSlice _ _ _ _ _ = _
  rw [Host.dynamicUpdateSlice_apply]
  by_cases h : t.val = k
  · rw [dif_pos, if_pos h]
    · pointwise
      congr 1
    · intro a
      match a with
      | 0 =>
        rw [Host.clampedStart_of_le _ _ 0 0 rfl (by decide)]
        exact ⟨Nat.zero_le _, by show n.val < 0 + 4; omega⟩
      | 1 =>
        rw [Host.clampedStart_of_le _ _ 1 0 rfl (by decide)]
        exact ⟨Nat.zero_le _, by show l.val < 0 + 64; omega⟩
      | 2 =>
        rw [Host.clampedStart_of_le _ _ 2 k (at_counter k hk) (by show k + 1 ≤ 4096; omega)]
        exact ⟨h.ge, by show t.val < k + 1; omega⟩
      | 3 =>
        rw [Host.clampedStart_of_le _ _ 3 0 rfl (by decide)]
        exact ⟨Nat.zero_le _, by show r.val < 0 + 64; omega⟩
  · rw [dif_neg, if_neg h]
    intro hin
    have := hin 2
    rw [Host.clampedStart_of_le _ _ 2 k (at_counter k hk) (by show k + 1 ≤ 4096; omega)] at this
    have h1 : k ≤ t.val ∧ t.val < k + 1 := this
    omega

/-- After `k` trips: the memory at `k` steps of the recurrence, and every position passed holds the memory there. -/
theorem iter_at (E : Valuation τ sig (Elt Ideal)) (a : Fin 4 → Fin 64 → ℕ → EReal) (v : Fin 4 → Fin 64 → Fin 64 → ℕ → EReal)
    (ha : ∀ n l (t : Fin 4096), carA E (ix3 n l t) = a n l t.val)
    (hv : ∀ n l (t : Fin 4096) r, carV E (ix4 n l t r) = v n l r t.val)
    (h3 : E (Proc.devRef .tc main_v41_3) = (fun _ => 0#32))
    (h4 : ∀ n l r, carM E (ix3 n l r) = (0 : EReal)) :
    ∀ k, k ≤ 4096 →
      carA (STEP^[k] E) = carA E ∧
      carV (STEP^[k] E) = carV E ∧
      (STEP^[k] E) (Proc.devRef .tc main_v41_3) = (fun _ => BitVec.ofNat 32 k) ∧
      (∀ n l r, carM (STEP^[k] E) (ix3 n l r) = mem (a n l) (v n l r) 0 k) ∧
      (∀ n l (t : Fin 4096) r, t.val < k →
        carR (STEP^[k] E) (ix4 n l t r) = mem (a n l) (v n l r) 0 (t.val + 1))
  | 0, _ => ⟨rfl, rfl, h3, h4, fun _ _ _ _ h => absurd h (Nat.not_lt_zero _)⟩
  | k + 1, hk => by
    obtain ⟨i0, i1, i3, i4, i5⟩ := iter_at E a v ha hv h3 h4 k (by omega)
    rw [Function.iterate_succ_apply']
    have hres : ∀ n l r, res_main_while0b_v68 (F := Ideal) (STEP^[k] E) (ix3 n l r) = mem (a n l) (v n l r) 0 (k + 1) := by
      intro n l r
      rw [res_at _ k (by omega) i3, i0, i1, i4, ha n l ⟨k, by omega⟩, hv n l ⟨k, by omega⟩ r]
      rfl
    refine ⟨(STEP_main_v41_0 _).trans i0, (STEP_main_v41_1 _).trans i1, ?_, ?_, ?_⟩
    · rw [STEP_main_v41_3]
      unfold step_main_v41_3
      rw [i3]
      funext j
      show BitVec.ofNat 32 k + 1#32 = BitVec.ofNat 32 (k + 1)
      exact (BitVec.ofNat_add ..).symm
    · intro n l r
      exact (congrFun (STEP_main_v41_4 _) _).trans (hres n l r)
    · intro n l t r ht
      refine ((congrFun (STEP_main_v41_5 _) _).trans (upd_at _ k (by omega) i3 n l t r)).trans ?_
      split_ifs with h
      · rw [h]
        exact hres n l r
      · exact i5 n l t r (by omega)

end Cert.ReferenceIdeal.Value
-- ==== Proof.RefStage.lean ====
module

public import proofs.«01_k».proof.Proof.RefLoop
public import proofs.«01_k».proof.Proof.Spec
public import Idealize.ShloMosaic.Lib.Routing.Words

@[expose] public section

set_option maxRecDepth 16384

noncomputable section

namespace Cert.ReferenceIdeal.Value

open Cert.ReferenceIdeal Cert.ReferenceIdeal.Gen Cert.Barrel
open Idealize.ShloMosaic Idealize.ShloMosaic.TcCoe Idealize.ShloMosaic.Tactic Idealize.ShloMosaic.StableHlo
open Idealize.SL.Sem

/-! ## The reference outside its loop, in stages -/

/-- The keys at every line and position. -/
def keysR (k : FVec Ideal S64x64 .f32) (ix : IVec S64x4096 32) : FVec Ideal S64x4096x64 .f32 :=
  Host.gather gather_S64x64_S64x4096x1_S64x4096x64_2_0_n_n_0_2_164 k
    (broadcastInDim S64x4096x1 ![0, 1] bcast_S64x4096_S64x4096x1_0_1
      (select (cmpi .slt ix (broadcastInDim S64x4096 ![] bcast_S_S64x4096 (constantI S_ 32 0#32)))
        (addi ix (broadcastInDim S64x4096 ![] bcast_S_S64x4096 (constantI S_ 32 64#32))) ix))

/-- A projection of the input, by head. -/
def projR (w : FVec Ideal S8x64x1024 .f32) (x : FVec Ideal S4x4096x1024 .f32) : FVec Ideal S4x8x4096x64 .f32 :=
  transpose S4x8x4096x64 [2, 0, 3, 1] (Host.dotGeneral dot_S8x64x1024_S4x4096x1024_S8x64x4x4096_2_2_01_01_n_n none w x)
    transposes_S8x64x4x4096_S4x8x4096x64_2_0_3_1

/-- The write scores. -/
def writeR (ks : FVec Ideal S64x4096x64 .f32) (q : FVec Ideal S4x8x4096x64 .f32) : FVec Ideal S4x8x64x4096 .f32 :=
  mulf (transpose S4x8x64x4096 [2, 3, 1, 0] (Host.dotGeneral dot_S64x4096x64_S4x8x4096x64_S4096x64x4x8_2_3_0_01_1_2 none ks q)
    transposes_S4096x64x4x8_S4x8x64x4096_2_3_1_0) (broadcastInDim S4x8x64x4096 ![] bcast_S_S4x8x64x4096 (constant S_ .f32 0x3E000000#32))

/-- The read scores. -/
def readR (k : FVec Ideal S64x64 .f32) (q : FVec Ideal S4x8x4096x64 .f32) : FVec Ideal S4x8x64x4096 .f32 :=
  mulf (transpose S4x8x64x4096 [1, 2, 0, 3] (Host.dotGeneral dot_S64x64_S4x8x4096x64_S64x4x8x4096_1_3_0_012_n_n none k q)
    transposes_S64x4x8x4096_S4x8x64x4096_1_2_0_3) (broadcastInDim S4x8x64x4096 ![] bcast_S_S4x8x64x4096 (constant S_ .f32 0x3E000000#32))

/-- The largest score over the lines. -/
def topR (s : FVec Ideal S4x8x64x4096 .f32) : FVec Ideal S4x8x4096 .f32 :=
  maximumf (broadcastInDim S4x8x4096 ![] bcast_S_S4x8x4096 (constant S_ .f32 0xFF800000#32))
    (Host.reduce FloatOps.maximumf s (constant S_ .f32 0xFF800000#32) reducesTo_S4x8x64x4096_S4x8x4096_d2 h_S_)

/-- A value for each line. -/
def lineR (a : FVec Ideal S4x8x4096 .f32) : FVec Ideal S4x8x64x4096 .f32 :=
  broadcastInDim S4x8x64x4096 ![0, 1, 2, 3] bcast_S4x8x1x4096_S4x8x64x4096_0_1_2_3
    (broadcastInDim S4x8x1x4096 ![0, 1, 3] bcast_S4x8x4096_S4x8x1x4096_0_1_3 a)

/-- The exponentials of the scores less the largest over the lines. -/
def expR (s : FVec Ideal S4x8x64x4096 .f32) : FVec Ideal S4x8x64x4096 .f32 := Host.exp (subf s (lineR (topR s)))

/-- The softmax over the lines. -/
def softR (s : FVec Ideal S4x8x64x4096 .f32) : FVec Ideal S4x8x64x4096 .f32 :=
  Host.divf (expR s) (lineR (Host.reduceAdd (expR s) (constant S_ .f32 0x00000000#32) reducesTo_S4x8x64x4096_S4x8x4096_d2 h_S_))

/-- The decays. -/
def gateR (w : FVec Ideal S4x8x64x4096 .f32) : FVec Ideal S4x64x4096 .f32 :=
  subf (broadcastInDim S4x64x4096 ![] bcast_S_S4x64x4096 (constant S_ .f32 0x3F800000#32))
    (Host.reduceAdd w (constant S_ .f32 0x00000000#32) reducesTo_S4x8x64x4096_S4x64x4096_d1 h_S_)

/-- The values written. -/
def valR (v : FVec Ideal S4x8x4096x64 .f32) (w : FVec Ideal S4x8x64x4096 .f32) : FVec Ideal S4x64x4096x64 .f32 :=
  transpose S4x64x4096x64 [0, 3, 1, 2] (Host.dotGeneral dot_S4x8x4096x64_S4x8x64x4096_S4x4096x64x64_1_1_3_2_02_03 none v w)
    transposes_S4x4096x64x64_S4x64x4096x64_0_3_1_2

/-- The result, of the read weights and the memories. -/
def outR (w : FVec Ideal S4x8x64x4096 .f32) (M : FVec Ideal S4x64x4096x64 .f32) (wo : FVec Ideal S512x1024 .f32) :
    FVec Ideal S4x4096x1024 .f32 :=
  Host.dotGeneral dot_S4x4096x512_S512x1024_S4x4096x1024_2_0_01_1_n_n none
    (shapeCast _ (Host.dotGeneral dot_S4x8x64x4096_S4x64x4096x64_S4x4096x8x64_2_1_1_3_03_02 none w M)
      shapeCasts_S4x4096x8x64_S4x4096x512) wo

/-! ### The stages at an index -/

theorem fold_at (s : FVec Ideal S4x8x64x4096 .f32) (n : Fin 4) (h : Fin 8) (t : Fin 4096) :
    (Host.reduce FloatOps.maximumf s (constant S_ .f32 0xFF800000#32) reducesTo_S4x8x64x4096_S4x8x4096_d2 h_S_) (ix3 n h t) =
          (Finset.fold max (Ideal.ofBits FTy.f32 0xFF800000#32) (fun x => s (ix4 n h x t)) Finset.univ) := by
  pointwise

theorem floor_at (a : FVec Ideal S4x8x4096 .f32) (n : Fin 4) (h : Fin 8) (t : Fin 4096) :
  (maximumf (broadcastInDim S4x8x4096 ![] bcast_S_S4x8x4096 (constant S_ .f32 0xFF800000#32)) a) (ix3 n h t) = a (ix3 n h t) := by
  have e : (maximumf (broadcastInDim S4x8x4096 ![] bcast_S_S4x8x4096 (constant S_ .f32 0xFF800000#32)) a) (ix3 n h t) = max (Ideal.ofBits FTy.f32 0xFF800000#32) (a (ix3 n h t)) := rfl
  rw [e, ofBits_bot]
  exact max_eq_right bot_le

theorem topR_at (s : FVec Ideal S4x8x64x4096 .f32) (n : Fin 4) (h : Fin 8) (t : Fin 4096) :
    topR s (ix3 n h t) = mx (fun l => s (ix4 n h l t)) := (floor_at _ n h t).trans (fold_at s n h t)

theorem expR_at (s : FVec Ideal S4x8x64x4096 .f32) (n : Fin 4) (h : Fin 8) (l : Fin 64) (t : Fin 4096) :
    expR s (ix4 n h l t) = Ideal.exp (s (ix4 n h l t) - mx (fun l => s (ix4 n h l t))) := by
  rw [← topR_at]
  pointwise [expR, lineR]

theorem softR_at (s : FVec Ideal S4x8x64x4096 .f32) (n : Fin 4) (h : Fin 8) (l : Fin 64) (t : Fin 4096) :
    softR s (ix4 n h l t) = sm (fun l => s (ix4 n h l t)) l := by
  have e : softR s (ix4 n h l t) = Ideal.div (expR s (ix4 n h l t)) (∑ x, expR s (ix4 n h x t)) := by
    pointwise [softR, lineR]
  rw [e]
  simp only [expR_at]
  rfl

theorem projR_at (w : FVec Ideal S8x64x1024 .f32) (x : FVec Ideal S4x4096x1024 .f32) (n : Fin 4) (h : Fin 8) (t : Fin 4096)
    (d : Fin 64) : projR w x (ix4 n h t d) = ∑ c, w (ix3 h d c) * x (ix3 n t c) := by
  pointwise [projR]

theorem writeR_at (ks : FVec Ideal S64x4096x64 .f32) (q : FVec Ideal S4x8x4096x64 .f32) (n : Fin 4) (h : Fin 8) (l : Fin 64)
    (t : Fin 4096) :
    writeR ks q (ix4 n h l t) = (∑ d, ks (ix3 l t d) * q (ix4 n h t d)) * Ideal.ofBits FTy.f32 0x3E000000#32 := by
  pointwise [writeR]

theorem readR_at (k : FVec Ideal S64x64 .f32) (q : FVec Ideal S4x8x4096x64 .f32) (n : Fin 4) (h : Fin 8) (l : Fin 64)
    (t : Fin 4096) :
    readR k q (ix4 n h l t) = (∑ d, k (ix2 l d) * q (ix4 n h t d)) * Ideal.ofBits FTy.f32 0x3E000000#32 := by
  pointwise [readR]

theorem gateR_at (w : FVec Ideal S4x8x64x4096 .f32) (n : Fin 4) (l : Fin 64) (t : Fin 4096) :
    gateR w (ix3 n l t) = Ideal.ofBits FTy.f32 0x3F800000#32 - ∑ h, w (ix4 n h l t) := by
  pointwise [gateR]

theorem valR_at (v : FVec Ideal S4x8x4096x64 .f32) (w : FVec Ideal S4x8x64x4096 .f32) (n : Fin 4) (l : Fin 64) (t : Fin 4096)
    (r : Fin 64) : valR v w (ix4 n l t r) = ∑ h, v (ix4 n h t r) * w (ix4 n h l t) := by
  pointwise [valR]

theorem outR_at (w : FVec Ideal S4x8x64x4096 .f32) (M : FVec Ideal S4x64x4096x64 .f32) (wo : FVec Ideal S512x1024 .f32)
    (n : Fin 4) (t : Fin 4096) (e : Fin 1024) :
    outR w M wo (ix3 n t e) = ∑ x, (∑ l, w (ix4 n (hOf x) l t) * M (ix4 n l t (rOf x))) * wo (ix2 x e) := by
  pointwise [outR]
  rfl

theorem gather_at (k : FVec Ideal S64x64 .f32) (ix : IVec S64x4096x1 32) (l : Fin 64) (t : Fin 4096) (d p : Fin 64)
    (h : ix (ix3 l t (0 : Fin 1)) = BitVec.ofNat 32 p.val) :
    Host.gather gather_S64x64_S64x4096x1_S64x4096x64_2_0_n_n_0_2_164 k ix (ix3 l t d) = k (ix2 p d) := by
  unfold Host.gather
  refine congrArg k (funext fun a => Fin.ext ?_)
  show (gather_S64x64_S64x4096x1_S64x4096x64_2_0_n_n_0_2_164).start (ix3 l t d) ix a +
    (gather_S64x64_S64x4096x1_S64x4096x64_2_0_n_n_0_2_164).batchCoord (ix3 l t d) a +
    (gather_S64x64_S64x4096x1_S64x4096x64_2_0_n_n_0_2_164).offCoord (ix3 l t d) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S64x64_S64x4096x1_S64x4096x64_2_0_n_n_0_2_164).startIndexMap from List.mem_singleton.mpr rfl)]
    have hsi : (gather_S64x64_S64x4096x1_S64x4096x64_2_0_n_n_0_2_164).siIdx (ix3 l t d)
        ⟨List.idxOf (0 : Fin 2) (gather_S64x64_S64x4096x1_S64x4096x64_2_0_n_n_0_2_164).startIndexMap,
        List.idxOf_lt_length_iff.2 (List.mem_singleton.mpr rfl)⟩ = ix3 l t (0 : Fin 1) := by
      funext b; refine Fin.ext ?_
      match b with
      | ⟨0, _⟩ => rfl
      | ⟨1, _⟩ => rfl
      | ⟨2, _⟩ => rfl
    rw [hsi, h]
    have hp := p.isLt
    have e : ∀ p : Fin 64, (BitVec.ofNat 32 p.val).toInt.toNat = p.val := by decide
    rw [e p]
    show min p.val 63 = p.val
    omega
  · have e0 : (gather_S64x64_S64x4096x1_S64x4096x64_2_0_n_n_0_2_164).start (ix3 l t d) ix 1 = 0 := by
      unfold GatherDims.start
      rw [dif_neg (fun h => by simp [gather_S64x64_S64x4096x1_S64x4096x64_2_0_n_n_0_2_164] at h)]
    rw [e0]
    simp only [Nat.zero_add]
    unfold GatherDims.offCoord
    rw [dif_pos (by decide)]
    rfl

theorem keysR_at (k : FVec Ideal S64x64 .f32) (ix : IVec S64x4096 32) (l : Fin 64) (t : Fin 4096) (d p : Fin 64)
    (h : ix (ix2 l t) = BitVec.ofNat 32 p.val) : keysR k ix (ix3 l t d) = k (ix2 p d) := by
  refine gather_at _ _ _ _ _ _ ?_
  pointwise
  rw [h]
  have : ∀ p : Fin 64, Scalar.select (IntOp.cmpi CmpIPredicate.slt (BitVec.ofNat 32 p.val) 0#32)
    (IntOp.addi (BitVec.ofNat 32 p.val) 64#32) (BitVec.ofNat 32 p.val) = BitVec.ofNat 32 p.val := by decide
  exact this p

end Cert.ReferenceIdeal.Value
-- ==== Proof.RefRead.lean ====
module

public import proofs.«01_k».proof.Proof.RefStage
public import proofs.«01_k».proof.Proof.Spec
public import Idealize.ShloMosaic.Lib.Routing.Words

@[expose] public section

set_option maxRecDepth 16384

noncomputable section

namespace Cert.ReferenceIdeal.Value

open Cert.ReferenceIdeal Cert.ReferenceIdeal.Gen Cert.Barrel
open Idealize.ShloMosaic Idealize.ShloMosaic.TcCoe Idealize.ShloMosaic.Tactic Idealize.ShloMosaic.StableHlo
open Idealize.SL.Sem

/-! ### The printed reference is these stages -/

theorem out_eq (V0 : Valuation τ sig (Elt Ideal)) :
    out_main_v61 (F := Ideal) V0 =
      outR (softR (readR (V0 (Proc.devRef .tc main_arg1)) (projR (V0 (Proc.devRef .tc main_arg3)) (V0 (Proc.devRef .tc main_arg0)))))
        (carR V0) (V0 (Proc.devRef .tc main_arg5)) := rfl

section
variable (Y : Valuation τ sig (Elt Ideal))

/-- The write weights, of the contents that the last stretch before the loop starts from. -/
def wY : FVec Ideal S4x8x64x4096 .f32 :=
  softR (writeR (keysR (Y (Proc.devRef .tc main_arg1)) (Y (Proc.devRef .tc main_v7)))
    (projR (Y (Proc.devRef .tc main_arg2)) (Y (Proc.devRef .tc main_arg0))))

set_option maxHeartbeats 2000000 in
theorem gate_eq : carA (after hostOps0_2 Y) = gateR (wY Y) := by
  simp only [carA, hostOps0_2]
  after_reads_simp
  rfl

set_option maxHeartbeats 2000000 in
theorem val_eq : carV (after hostOps0_2 Y) =
    valR (projR (Y (Proc.devRef .tc main_arg4)) (Y (Proc.devRef .tc main_arg0))) (wY Y) := by
  simp only [carV, hostOps0_2]
  after_reads_simp
  rfl

theorem cnt_eq : after hostOps0_2 Y (Proc.devRef .tc main_v41_3) = (fun _ => 0#32) := by
  simp only [hostOps0_2]
  after_reads_simp
  rfl

theorem mem_eq (n : Fin 4) (l r : Fin 64) : carM (after hostOps0_2 Y) (ix3 n l r) = (0 : EReal) := by
  have e : carM (after hostOps0_2 Y) = broadcastInDim S4x64x64 ![] bcast_S_S4x64x64 (constant (F := Ideal) S_ .f32 0x00000000#32) := by
    simp only [carM, hostOps0_2]
    after_reads_simp
    rfl
  rw [e]
  pointwise
end

/-- A word less the floor multiple of the modulus, as the reference prints it. -/
def modR (x : IVec S64x4096 32) (y : IVec S_ 32) : IVec S64x4096 32 :=
  let b : IVec S_ 32 := select (cmpi .eq y (constantI S_ 32 0#32)) (constantI S_ 32 1#32) y
  let r : IVec S64x4096 32 := Host.remsi x (broadcastInDim S64x4096 ![] bcast_S_S64x4096 b)
  select (andi (cmpi .ne (cmpi .slt r (broadcastInDim S64x4096 ![] bcast_S_S64x4096 (constantI S_ 32 0#32)))
      (broadcastInDim S64x4096 ![] bcast_S_S64x4096 (cmpi .slt b (constantI S_ 32 0#32))))
    (cmpi .ne r (broadcastInDim S64x4096 ![] bcast_S_S64x4096 (constantI S_ 32 0#32))))
    (addi r (broadcastInDim S64x4096 ![] bcast_S_S64x4096 b)) r

/-- Line plus position. -/
def sumR : IVec S64x4096 32 :=
  addi (broadcastInDim S64x4096 ![0, 1] bcast_S64x1_S64x4096_0_1 (broadcastInDim S64x1 ![0] bcast_S64_S64x1_0 (iotaInDim S64 32 0)))
    (broadcastInDim S64x4096 ![0, 1] bcast_S1x4096_S64x4096_0_1 (broadcastInDim S1x4096 ![1] bcast_S4096_S1x4096_1 (iotaInDim S4096 32 0)))

theorem line_eq (Y : Valuation τ sig (Elt Ideal)) :
    (after hostOps0_1 (after hostOps0 Y) (Proc.devRef .tc main_v7) : IVec S64x4096 32) = modR sumR (constantI S_ 32 64#32) := by
  simp only [hostOps0, hostOps0_1]
  after_reads_simp
  rfl

theorem mod_word : ∀ p : Fin 64,
    Scalar.select (IntOp.andi
        (IntOp.cmpi CmpIPredicate.ne (IntOp.cmpi CmpIPredicate.slt (BitVec.ofNat 32 p.val) 0#32) (IntOp.cmpi CmpIPredicate.slt 64#32 0#32))
        (IntOp.cmpi CmpIPredicate.ne (BitVec.ofNat 32 p.val) 0#32))
      (IntOp.addi (BitVec.ofNat 32 p.val) 64#32) (BitVec.ofNat 32 p.val) = BitVec.ofNat 32 p.val := by decide

theorem lineR_at (l : Fin 64) (t : Fin 4096) :
    modR sumR (constantI S_ 32 64#32) (ix2 l t) = BitVec.ofNat 32 (turn t.val l).val := by
  pointwise [modR, sumR]
  have e : Scalar.select (IntOp.cmpi CmpIPredicate.eq 64#32 0#32) 1#32 64#32 = 64#32 := by decide
  have ea : IntOp.addi (BitVec.ofNat 32 l.val) (BitVec.ofNat 32 t.val) = BitVec.ofNat 32 (l.val + t.val) :=
    (BitVec.ofNat_add ..).symm
  have er : IntOp.remsi ArithUnit.host (BitVec.ofNat 32 (l.val + t.val)) 64#32 = BitVec.ofNat 32 (turn t.val l).val :=
    Routing.remsi_word .host (a := l.val + t.val) (b := 64) (by have := l.isLt; have := t.isLt; omega) (by decide) (by decide)
  rw [e, ea, er]
  exact mod_word (turn t.val l)

end Cert.ReferenceIdeal.Value
-- ==== Proof.RefVal.lean ====
module

public import proofs.«01_k».proof.Proof.RefRead

@[expose] public section

set_option maxRecDepth 16384

noncomputable section

namespace Cert.ReferenceIdeal.Value

open Cert.ReferenceIdeal Cert.ReferenceIdeal.Gen Cert.Barrel
open Idealize.ShloMosaic Idealize.ShloMosaic.TcCoe Idealize.ShloMosaic.Tactic Idealize.ShloMosaic.StableHlo
open Idealize.SL.Sem

variable (x : FVec Ideal S4x4096x1024 .f32) (k : FVec Ideal S64x64 .f32) (wq wr wv : FVec Ideal S8x64x1024 .f32)
  (wo : FVec Ideal S512x1024 .f32)

theorem read_wt (n : Fin 4) (h : Fin 8) (l : Fin 64) (t : Fin 4096) :
    softR (readR k (projR wr x)) (ix4 n h l t) = wt (fK k) (fX x) (fW wr) n h t l := by
  rw [softR_at]
  simp only [readR_at, projR_at]
  rfl

theorem write_wt (ix : IVec S64x4096 32) (hix : ∀ l t, ix (ix2 l t) = BitVec.ofNat 32 (turn t.val l).val) (n : Fin 4) (h : Fin 8)
    (l : Fin 64) (t : Fin 4096) :
    softR (writeR (keysR k ix) (projR wq x)) (ix4 n h l t) = wt (fK k) (fX x) (fW wq) n h t (turn t.val l) := by
  rw [softR_at]
  simp only [writeR_at, projR_at, keysR_at k ix _ t _ _ (hix _ t)]
  exact sm_turn t.val (sc (fK k) (prj (fX x) (fW wq) n h t)) l

variable (m : (ℓ : Loc nD τ sig) → Buf (Elt Ideal) ℓ) (c : Dev nD)

/-- The contents where the last stretch before the loop starts. -/
def Y0 : Valuation τ sig (Elt Ideal) := after hostOps0_1 (after hostOps0 (launchContents m c))

theorem entry_eq : entryContents preI m c = after hostOps0_2 (Y0 m c) := rfl

/-- The launch contents of the reference's arguments. -/
abbrev A0 : FVec Ideal S4x4096x1024 .f32 := m ((c.tc : Thread nD τ).loc main_arg0)
abbrev A1 : FVec Ideal S64x64 .f32 := m ((c.tc : Thread nD τ).loc main_arg1)
abbrev A2 : FVec Ideal S8x64x1024 .f32 := m ((c.tc : Thread nD τ).loc main_arg2)
abbrev A3 : FVec Ideal S8x64x1024 .f32 := m ((c.tc : Thread nD τ).loc main_arg3)
abbrev A4 : FVec Ideal S8x64x1024 .f32 := m ((c.tc : Thread nD τ).loc main_arg4)
abbrev A5 : FVec Ideal S512x1024 .f32 := m ((c.tc : Thread nD τ).loc main_arg5)

theorem Y0_arg0 : Y0 m c (Proc.devRef .tc main_arg0) = A0 m c :=
  (keep_main_arg0_hostOps0_1 (F := Ideal) _).trans (keep_main_arg0_hostOps0 (F := Ideal) _)
theorem Y0_arg1 : Y0 m c (Proc.devRef .tc main_arg1) = A1 m c :=
  (keep_main_arg1_hostOps0_1 (F := Ideal) _).trans (keep_main_arg1_hostOps0 (F := Ideal) _)
theorem Y0_arg2 : Y0 m c (Proc.devRef .tc main_arg2) = A2 m c :=
  (keep_main_arg2_hostOps0_1 (F := Ideal) _).trans (keep_main_arg2_hostOps0 (F := Ideal) _)
theorem Y0_arg4 : Y0 m c (Proc.devRef .tc main_arg4) = A4 m c :=
  (keep_main_arg4_hostOps0_1 (F := Ideal) _).trans (keep_main_arg4_hostOps0 (F := Ideal) _)

theorem wY_at (n : Fin 4) (h : Fin 8) (l : Fin 64) (t : Fin 4096) :
    wY (Y0 m c) (ix4 n h l t) = wt (fK (A1 m c)) (fX (A0 m c)) (fW (A2 m c)) n h t (turn t.val l) := by
  unfold wY
  rw [Y0_arg0, Y0_arg1, Y0_arg2]
  exact write_wt _ _ _ _ (fun l t => (congrFun (line_eq _) _).trans (lineR_at l t)) n h l t

theorem carA_at (n : Fin 4) (l : Fin 64) (t : Fin 4096) :
    carA (entryContents preI m c) (ix3 n l t) = gat (fK (A1 m c)) (fW (A2 m c)) (fX (A0 m c)) n l t.val := by
  rw [entry_eq, gate_eq, gateR_at]
  simp only [wY_at]
  unfold gat
  rw [pos_val]

theorem carV_at (n : Fin 4) (l : Fin 64) (t : Fin 4096) (r : Fin 64) :
    carV (entryContents preI m c) (ix4 n l t r) =
      wrt (fK (A1 m c)) (fW (A2 m c)) (fW (A4 m c)) (fX (A0 m c)) n l r t.val := by
  rw [entry_eq, val_eq, valR_at, Y0_arg0, Y0_arg4]
  simp only [wY_at, projR_at]
  unfold wrt
  rw [pos_val]
  exact Finset.sum_congr rfl fun h _ => mul_comm _ _

/-- What the reference computes. -/
theorem ref_at (n : Fin 4) (t : Fin 4096) (e : Fin 1024) :
    (out_main_v61 (F := Ideal) (STEP^[4096] (entryContents preI m c)) : FVec Ideal S4x4096x1024 .f32) (ix3 n t e) =
      res (fK (A1 m c)) (fW (A2 m c)) (fW (A3 m c)) (fW (A4 m c)) (fO (A5 m c)) (fX (A0 m c)) n t e := by
  have hI := (iter_at (entryContents preI m c) (gat (fK (A1 m c)) (fW (A2 m c)) (fX (A0 m c)))
    (wrt (fK (A1 m c)) (fW (A2 m c)) (fW (A4 m c)) (fX (A0 m c))) (carA_at m c) (carV_at m c)
    ((congrFun (entry_eq m c) _).trans (cnt_eq _)) (mem_eq (Y0 m c)) 4096 le_rfl).2.2.2.2
  rw [out_eq, iter_main_arg0, iter_main_arg1, iter_main_arg3, iter_main_arg5, outR_at]
  simp only [read_wt, hI _ _ t _ t.isLt]
  rfl

end Cert.ReferenceIdeal.Value
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite_inputs
public import proofs.«01_k».proof.Proof.Gen.ReferenceIdeal.Run
public import proofs.«01_k».proof.Proof.Finite
public import proofs.«01_k».proof.Proof.Points
public import proofs.«01_k».proof.Proof.RefVal
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Barrel

/-- The reference ends with its arguments as they were and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition. -/
theorem quiescent_ReferenceIdeal_pre : quiescent_ReferenceIdeal_pre_finite_inputs := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite inputs the kernel's result is the specification's. -/
theorem kernel_at (m : (ℓ : Loc Cert.KernelIdeal.nD Cert.KernelIdeal.τ Cert.KernelIdeal.sig) → Buf (Elt Ideal) ℓ)
    (hpre : Pre_KernelIdeal_finite_inputs m) (c : Dev Cert.KernelIdeal.nD) (n : Fin 4) (s : Fin 4096) (e : Fin 1024) :
    (Cert.KernelIdeal.Value.G6 m c : FVec Ideal Cert.KernelIdeal.S4x4096x1024 .f32) (ix3 n s e) =
      res (fK (Cert.KernelIdeal.Body.L1 m c)) (fW (Cert.KernelIdeal.Body.L2 m c)) (fW (Cert.KernelIdeal.Body.L3 m c))
        (fW (Cert.KernelIdeal.Body.L4 m c)) (fO (Cert.KernelIdeal.Body.L5 m c)) (fX (Cert.KernelIdeal.Body.L0 m c)) n s e := by
  obtain ⟨h0, h1, h2, h4⟩ := Cert.Pre_finite_inputs.finite _ _ _ _ _ _ (hpre c)
  have hX : ∀ n t c', Rl (fX (Cert.KernelIdeal.Body.L0 m c) n t c') := fun n t c' => h0 _
  have hK : ∀ l d, Rl (fK (Cert.KernelIdeal.Body.L1 m c) l d) := fun l d => h1 _
  have hQ : ∀ h d c', Rl (fW (Cert.KernelIdeal.Body.L2 m c) h d c') := fun h d c' => h2 _
  have hV : ∀ h d c', Rl (fW (Cert.KernelIdeal.Body.L4 m c) h d c') := fun h d c' => h4 _
  choose ar har using gat_real (Wq := fW (Cert.KernelIdeal.Body.L2 m c)) hK hQ hX
  choose vr hvr using wrt_real (Wq := fW (Cert.KernelIdeal.Body.L2 m c)) (Wv := fW (Cert.KernelIdeal.Body.L4 m c)) hK hQ hV hX
  exact Cert.KernelIdeal.Body.ker_at m c ar vr har hvr n s e

theorem algebraic : algebraic_KernelIdeal_ReferenceIdeal_pre_finite_inputs := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4, e5⟩ := hagree c
  funext i
  obtain ⟨n, s, e, rfl⟩ : ∃ (n : Fin 4) (s : Fin 4096) (e : Fin 1024), i = ix3 n s e := ⟨i 0, i 1, i 2, eq_ix3 i⟩
  refine (Cert.ReferenceIdeal.Value.ref_at m' c n s e).trans ?_
  unfold Cert.ReferenceIdeal.Value.A0 Cert.ReferenceIdeal.Value.A1 Cert.ReferenceIdeal.Value.A2 Cert.ReferenceIdeal.Value.A3
    Cert.ReferenceIdeal.Value.A4 Cert.ReferenceIdeal.Value.A5
  rw [e0, e1, e2, e3, e4, e5]
  exact (kernel_at m hpre c n s e).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre, (trivial : preserves_Kernel_KernelIdeal), algebraic⟩

end Cert.Proof

end
